-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8x1024x128 : Shape := ⟨4, ![2, 8, 1024, 128]⟩
abbrev S128x128 : Shape := ⟨2, ![128, 128]⟩
abbrev S128 : Shape := ⟨1, ![128]⟩
abbrev S256x128 : Shape := ⟨2, ![256, 128]⟩
abbrev S1024x128 : Shape := ⟨2, ![1024, 128]⟩
abbrev S128x1 : Shape := ⟨2, ![128, 1]⟩
abbrev S1 : Shape := ⟨1, ![1]⟩
abbrev S_ : Shape := ⟨0, ![]⟩

class Facts : Prop where
  bcast_S_S128x128 : S_.BroadcastsInDim S128x128 (![] : Fin 0 → Fin S128x128.rank)
  bcast_S_S128 : S_.BroadcastsInDim S128 (![] : Fin 0 → Fin S128.rank)

variable [Facts]

def fn {F : FTy → Type} [FloatOps F] (main_arg0 : FVec F S2x8x1024x128 .f32) (main_arg1 : FVec F S128x128 .f32) (main_arg2 : FVec F S128 .f32) (main_arg3 : FVec F S128x128 .f32) (main_arg4 : FVec F S128 .f32) (main_arg5 : FVec F S256x128 .f32) (main_arg6 : FVec F S128 .f32) (main_arg7 : FVec F S128x128 .f32) (main_arg8 : FVec F S128 .f32) (main_arg9 : FVec F S1024x128 .f32) (main_arg10 : FVec F S128 .f32) (main_arg11 : FVec F S128x1 .f32) (main_arg12 : FVec F S1 .f32) : IVec S128x128 1 × IVec S128 1 × IVec S128x128 1 :=
  let main_v0 : FVec F S128x128 .f32 := Host.absf main_arg1
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128x128 .f32 := Host.absf main_arg3
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  (main_v2, main_v5, main_v8)
-- ==== Kernel.lean ====
abbrev S2x8x1024x128 : Shape := ⟨4, ![2, 8, 1024, 128]⟩
abbrev S128x128 : Shape := ⟨2, ![128, 128]⟩
abbrev S128 : Shape := ⟨1, ![128]⟩
abbrev S256x128 : Shape := ⟨2, ![256, 128]⟩
abbrev S1024x128 : Shape := ⟨2, ![1024, 128]⟩
abbrev S128x1 : Shape := ⟨2, ![128, 1]⟩
abbrev S1 : Shape := ⟨1, ![1]⟩
abbrev S16x1024x128 : Shape := ⟨3, ![16, 1024, 128]⟩
abbrev S1x128 : Shape := ⟨2, ![1, 128]⟩
abbrev S1x1 : Shape := ⟨2, ![1, 1]⟩
abbrev S16x1x128 : Shape := ⟨3, ![16, 1, 128]⟩
abbrev S2x1024x128 : Shape := ⟨3, ![2, 1024, 128]⟩
abbrev S2x1x128 : Shape := ⟨3, ![2, 1, 128]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩
abbrev S1x1x1 : Shape := ⟨3, ![1, 1, 1]⟩
abbrev S1x1x128 : Shape := ⟨3, ![1, 1, 128]⟩
abbrev S2x8x128 : Shape := ⟨3, ![2, 8, 128]⟩

abbrev nBuf : Space → Nat
  | .hbm => 23
  | .vmem => 16
  | .smem => 0
  | _ => 0

abbrev bufTy : (tb : Table) → Fin (tcTables nBuf tb) → BufTy
  | .hbm, ⟨0, _⟩ => ⟨S2x8x1024x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1024x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S16x1024x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x1, .f32⟩
  | .hbm, ⟨21, _⟩ => ⟨S16x1x128, .f32⟩
  | .hbm, ⟨22, _⟩ => ⟨S2x8x128, .f32⟩
  | .local _ .vmem, ⟨0, _⟩ => ⟨S2x1024x128, .f32⟩
  | .local _ .vmem, ⟨1, _⟩ => ⟨S2x1024x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1024x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S2x1x128, .f32⟩
  | .local _ .vmem, ⟨15, _⟩ => ⟨S2x1x128, .f32⟩
  | _, _ => ⟨S2x8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2x8x1024x128 : Shape := ⟨4, ![2, 8, 1024, 128]⟩
abbrev S128x128 : Shape := ⟨2, ![128, 128]⟩
abbrev S128 : Shape := ⟨1, ![128]⟩
abbrev S256x128 : Shape := ⟨2, ![256, 128]⟩
abbrev S1024x128 : Shape := ⟨2, ![1024, 128]⟩
abbrev S128x1 : Shape := ⟨2, ![128, 1]⟩
abbrev S1 : Shape := ⟨1, ![1]⟩
abbrev S16x1024x128 : Shape := ⟨3, ![16, 1024, 128]⟩
abbrev S16x1024x1024 : Shape := ⟨3, ![16, 1024, 1024]⟩
abbrev S16x1024x5 : Shape := ⟨3, ![16, 1024, 5]⟩
abbrev S16x1024x1 : Shape := ⟨3, ![16, 1024, 1]⟩
abbrev S_ : Shape := ⟨0, ![]⟩
abbrev S1024x1024 : Shape := ⟨2, ![1024, 1024]⟩
abbrev S1x1024x1024 : Shape := ⟨3, ![1, 1024, 1024]⟩
abbrev S16x1024 : Shape := ⟨2, ![16, 1024]⟩
abbrev S16x1x1024 : Shape := ⟨3, ![16, 1, 1024]⟩
abbrev S16x128x1024 : Shape := ⟨3, ![16, 128, 1024]⟩
abbrev S1x1x128 : Shape := ⟨3, ![1, 1, 128]⟩
abbrev S2x8x1024x256 : Shape := ⟨4, ![2, 8, 1024, 256]⟩
abbrev S1x1x1x128 : Shape := ⟨4, ![1, 1, 1, 128]⟩
abbrev S2x8x128x1024 : Shape := ⟨4, ![2, 8, 128, 1024]⟩
abbrev S2x8x128x128 : Shape := ⟨4, ![2, 8, 128, 128]⟩
abbrev S2x8x128x1 : Shape := ⟨4, ![2, 8, 128, 1]⟩
abbrev S1x1x1x1 : Shape := ⟨4, ![1, 1, 1, 1]⟩
abbrev S2x8x128 : Shape := ⟨3, ![2, 8, 128]⟩

abbrev nBuf : Space → Nat
  | .hbm => 138
  | .vmem => 0
  | .smem => 0
  | _ => 0

abbrev hbmTy0_0 (i : Nat) : BufTy := match i % 128 with
  | 0 => ⟨S2x8x1024x128, .f32⟩
  | 1 => ⟨S128x128, .f32⟩
  | 2 => ⟨S128, .f32⟩
  | 3 => ⟨S128x128, .f32⟩
  | 4 => ⟨S128, .f32⟩
  | 5 => ⟨S256x128, .f32⟩
  | 6 => ⟨S128, .f32⟩
  | 7 => ⟨S128x128, .f32⟩
  | 8 => ⟨S128, .f32⟩
  | 9 => ⟨S1024x128, .f32⟩
  | 10 => ⟨S128, .f32⟩
  | 11 => ⟨S128x1, .f32⟩
  | 12 => ⟨S1, .f32⟩
  | 13 => ⟨S16x1024x128, .f32⟩
  | 14 => ⟨S16x1024x1024, .f32⟩
  | 15 => ⟨S16x1024x5, .f32⟩
  | 16 => ⟨S16x1024x5, .i32⟩
  | 17 => ⟨S16x1024x1, .f32⟩
  | 18 => ⟨S16x1024x1024, .f32⟩
  | 19 => ⟨S16x1024x1024, .i1⟩
  | 20 => ⟨S_, .f32⟩
  | 21 => ⟨S16x1024x1024, .f32⟩
  | 22 => ⟨S16x1024x1024, .f32⟩
  | 23 => ⟨S1024x1024, .i32⟩
  | 24 => ⟨S1024x1024, .i32⟩
  | 25 => ⟨S_, .i32⟩
  | 26 => ⟨S1024x1024, .i32⟩
  | 27 => ⟨S1024x1024, .i32⟩
  | 28 => ⟨S1024x1024, .i1⟩
  | 29 => ⟨S1024x1024, .f32⟩
  | 30 => ⟨S1x1024x1024, .f32⟩
  | 31 => ⟨S16x1024x1024, .f32⟩
  | 32 => ⟨S16x1024x1024, .f32⟩
  | 33 => ⟨S16x1024x1024, .f32⟩
  | 34 => ⟨S_, .f32⟩
  | 35 => ⟨S16x1024, .f32⟩
  | 36 => ⟨S_, .f32⟩
  | 37 => ⟨S16x1024, .f32⟩
  | 38 => ⟨S16x1024, .f32⟩
  | 39 => ⟨S16x1024, .f32⟩
  | 40 => ⟨S_, .f32⟩
  | 41 => ⟨S16x1024, .f32⟩
  | 42 => ⟨S16x1024, .f32⟩
  | 43 => ⟨S16x1024x1, .f32⟩
  | 44 => ⟨S16x1024x1024, .f32⟩
  | 45 => ⟨S16x1024x1024, .f32⟩
  | 46 => ⟨S16x1x1024, .f32⟩
  | 47 => ⟨S16x1024x1024, .f32⟩
  | 48 => ⟨S16x1024x1024, .f32⟩
  | 49 => ⟨S1024x1024, .i32⟩
  | 50 => ⟨S1024x1024, .i32⟩
  | 51 => ⟨S_, .i32⟩
  | 52 => ⟨S1024x1024, .i32⟩
  | 53 => ⟨S1024x1024, .i32⟩
  | 54 => ⟨S1024x1024, .i1⟩
  | 55 => ⟨S1024x1024, .f32⟩
  | 56 => ⟨S1x1024x1024, .f32⟩
  | 57 => ⟨S16x1024x1024, .f32⟩
  | 58 => ⟨S16x1024x1024, .f32⟩
  | 59 => ⟨S16x1024x1024, .f32⟩
  | 60 => ⟨S_, .f32⟩
  | 61 => ⟨S16x1024, .f32⟩
  | 62 => ⟨S_, .f32⟩
  | 63 => ⟨S16x1024, .f32⟩
  | 64 => ⟨S16x1024, .f32⟩
  | 65 => ⟨S16x1024, .f32⟩
  | 66 => ⟨S_, .f32⟩
  | 67 => ⟨S16x1024, .f32⟩
  | 68 => ⟨S16x1024, .f32⟩
  | 69 => ⟨S16x1024x1, .f32⟩
  | 70 => ⟨S16x1024x1024, .f32⟩
  | 71 => ⟨S16x1024x1024, .f32⟩
  | 72 => ⟨S16x1x1024, .f32⟩
  | 73 => ⟨S16x1024x1024, .f32⟩
  | 74 => ⟨S16x1024x1024, .f32⟩
  | 75 => ⟨S16x128x1024, .f32⟩
  | 76 => ⟨S16x1024x128, .f32⟩
  | 77 => ⟨S1x1x128, .f32⟩
  | 78 => ⟨S16x1024x128, .f32⟩
  | 79 => ⟨S16x1024x128, .f32⟩
  | 80 => ⟨S_, .f32⟩
  | 81 => ⟨S16x1024x128, .f32⟩
  | 82 => ⟨S16x1024x128, .f32⟩
  | 83 => ⟨S16x1024x128, .f32⟩
  | 84 => ⟨S16x128x1024, .f32⟩
  | 85 => ⟨S16x1024x128, .f32⟩
  | 86 => ⟨S1x1x128, .f32⟩
  | 87 => ⟨S16x1024x128, .f32⟩
  | 88 => ⟨S16x1024x128, .f32⟩
  | 89 => ⟨S_, .f32⟩
  | 90 => ⟨S16x1024x128, .f32⟩
  | 91 => ⟨S16x1024x128, .f32⟩
  | 92 => ⟨S16x1024x128, .f32⟩
  | 93 => ⟨S2x8x1024x128, .f32⟩
  | 94 => ⟨S16x128x1024, .f32⟩
  | 95 => ⟨S16x1024x128, .f32⟩
  | 96 => ⟨S1x1x128, .f32⟩
  | 97 => ⟨S16x1024x128, .f32⟩
  | 98 => ⟨S16x1024x128, .f32⟩
  | 99 => ⟨S_, .f32⟩
  | 100 => ⟨S16x1024x128, .f32⟩
  | 101 => ⟨S16x1024x128, .f32⟩
  | 102 => ⟨S16x1024x128, .f32⟩
  | 103 => ⟨S16x128x1024, .f32⟩
  | 104 => ⟨S16x1024x128, .f32⟩
  | 105 => ⟨S1x1x128, .f32⟩
  | 106 => ⟨S16x1024x128, .f32⟩
  | 107 => ⟨S16x1024x128, .f32⟩
  | 108 => ⟨S_, .f32⟩
  | 109 => ⟨S16x1024x128, .f32⟩
  | 110 => ⟨S16x1024x128, .f32⟩
  | 111 => ⟨S16x1024x128, .f32⟩
  | 112 => ⟨S2x8x1024x128, .f32⟩
  | 113 => ⟨S2x8x1024x256, .f32⟩
  | 114 => ⟨S2x8x1024x128, .f32⟩
  | 115 => ⟨S1x1x1x128, .f32⟩
  | 116 => ⟨S2x8x1024x128, .f32⟩
  | 117 => ⟨S2x8x1024x128, .f32⟩
  | 118 => ⟨S_, .f32⟩
  | 119 => ⟨S2x8x1024x128, .f32⟩
  | 120 => ⟨S2x8x1024x128, .f32⟩
  | 121 => ⟨S2x8x1024x128, .f32⟩
  | 122 => ⟨S1x1x1x128, .f32⟩
  | 123 => ⟨S2x8x1024x128, .f32⟩
  | 124 => ⟨S2x8x1024x128, .f32⟩
  | 125 => ⟨S2x8x128x1024, .f32⟩
  | 126 => ⟨S2x8x128x128, .f32⟩
  | 127 => ⟨S1x1x1x128, .f32⟩
  | _ => ⟨S2x8x1024x128, .f32⟩

abbrev hbmTy0_1 (i : Nat) : BufTy := match i % 128 with
  | 0 => ⟨S2x8x128x128, .f32⟩
  | 1 => ⟨S2x8x128x128, .f32⟩
  | 2 => ⟨S_, .f32⟩
  | 3 => ⟨S2x8x128x128, .f32⟩
  | 4 => ⟨S2x8x128x128, .f32⟩
  | 5 => ⟨S2x8x128x1, .f32⟩
  | 6 => ⟨S1x1x1x1, .f32⟩
  | 7 => ⟨S2x8x128x1, .f32⟩
  | 8 => ⟨S2x8x128x1, .f32⟩
  | 9 => ⟨S2x8x128, .f32⟩
  | _ => ⟨S2x8x1024x128, .f32⟩

abbrev hbmTy (i : Nat) : BufTy := match i / 128 with
  | 0 => hbmTy0_0 i
  | 1 => hbmTy0_1 i
  | _ => ⟨S2x8x1024x128, .f32⟩

abbrev bufTy : (tb : Table) → Fin (tcTables nBuf tb) → BufTy
  | .hbm, ⟨i, _⟩ => hbmTy i
  | _, _ => ⟨S2x8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_values : Ref sig .tc := ⟨.hbm, 15, rfl⟩
abbrev main_indices : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call3_cst : Ref sig .tc := ⟨.hbm, 99, rfl⟩
abbrev main_call3_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_call4_cst : Ref sig .tc := ⟨.hbm, 108, rfl⟩
abbrev main_call4_v0 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call5_cst : Ref sig .tc := ⟨.hbm, 118, rfl⟩
abbrev main_call5_v0 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_call6_cst : Ref sig .tc := ⟨.hbm, 130, rfl⟩
abbrev main_call6_v0 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]
-- ==== Proof.Snap.lean ====
module

public import proofs.«01_k».proof.Proof.Gen.KernelIdeal.Skeleton

@[expose] public section

set_option maxRecDepth 16384

noncomputable section

namespace Cert.KernelIdeal.Snap

open Idealize.ShloMosaic Cert.KernelIdeal.Gen

variable {F : FTy → Type} [FloatOps F]

/-! # One snapshot of the kernel, as functions of vectors

The body treats its two snapshots alike; these are the values it computes for one of them, at any float type. -/

/-- The similarity matrix: the products of every two rows of the snapshot's features. -/
def sims (x : FVec F S1024x128 .f32) : FVec F S1024x1024 .f32 :=
  matmul dot_S1024x128_S1024x128_S1024x1024_1_1_0_0_n_n none x x (constant S1024x1024 .f32 0x00000000#32)

/-- Row sums of absolute values, plus one and epsilon, under the reciprocal root. -/
def invRoot (S : FVec F S1024x1024 .f32) : FVec F S1024x1 .f32 :=
  rsqrt (addf (shapeCast S1024x1
      (multiReduction .add [1] S1024 (absf S) 0x00000000#32 reduces_S1024x1024_S1024 (.inl rfl) rfl)
      shapeCasts_S1024_S1024x1)
    (broadcast S1024x1 (Scalar.addf (Scalar.ofBits .f32 0x3F800000#32) (Scalar.ofBits .f32 0x358637BD#32))))

/-- Each row's maximum. -/
def rowMax (S : FVec F S1024x1024 .f32) : FVec F S1024x1 .f32 :=
  shapeCast S1024x1
    (multiReduction .maximumf [1] S1024 S 0xFF800000#32 reduces_S1024x1024_S1024 (.inl rfl) rfl)
    shapeCasts_S1024_S1024x1

/-- Each row's maximum among the entries strictly below a bound. -/
def below (S : FVec F S1024x1024 .f32) (d : FVec F S1024x1 .f32) : FVec F S1024x1 .f32 :=
  rowMax (select (cmpf .olt S (broadcastTo S1024x1024 d broadcasts_S1024x1_S1024x1024)) S
    (broadcast S1024x1024 (Scalar.ofBits .f32 0xFF800000#32)))

/-- The fifth largest distinct value of each row. -/
def fifth (S : FVec F S1024x1024 .f32) : FVec F S1024x1 .f32 :=
  below S (below S (below S (below S (rowMax S))))

/-- Ones where an entry reaches its row's bound, zeros elsewhere. -/
def reach (S : FVec F S1024x1024 .f32) (d : FVec F S1024x1 .f32) : FVec F S1024x1024 .f32 :=
  select (cmpf .oge S (broadcastTo S1024x1024 d broadcasts_S1024x1_S1024x1024))
    (broadcast S1024x1024 (Scalar.ofBits .f32 0x3F800000#32))
    (broadcast S1024x1024 (Scalar.ofBits .f32 0x00000000#32))

/-- Whether a row's number of ones differs from five. -/
def off5 (ind : FVec F S1024x1024 .f32) : IVec S1024x1 1 :=
  cmpf .one (shapeCast S1024x1
      (multiReduction .add [1] S1024 ind 0x00000000#32 reduces_S1024x1024_S1024 (.inl rfl) rfl)
      shapeCasts_S1024_S1024x1)
    (broadcast S1024x1 (Scalar.ofBits .f32 0x40A00000#32))

/-- The largest of the rows' flags, as a float. -/
def anyRow (b : IVec S1024x1 1) : F .f32 :=
  extractAt ![0, 0, 0]
    (shapeCast S1x1x1
      (multiReduction .maximumf [1, 2] S1
        (shapeCast S1x1024x1
          (select b (broadcast S1024x1 (Scalar.ofBits .f32 0x3F800000#32))
            (broadcast S1024x1 (Scalar.ofBits .f32 0x00000000#32)))
          shapeCasts_S1024x1_S1x1024x1)
        0xFF800000#32 reduces_S1x1024x1_S1 (.inl rfl) rfl)
      shapeCasts_S1_S1x1x1) inpos_S1x1x1_p0_0_0

/-- The branch's condition: whether some row has a tie at its fifth largest distinct value. -/
def tied (S : FVec F S1024x1024 .f32) : BitVec 1 :=
  Scalar.cmpi .ne (Scalar.extui (Scalar.cmpf .ogt (anyRow (F := F) (off5 (reach S (fifth S))))
    (Scalar.ofBits .f32 0x00000000#32)) : BitVec 32) 0#32

/-- How often each row attains a value. -/
def occ (S : FVec F S1024x1024 .f32) (m : FVec F S1024x1 .f32) : IVec S1024x1 32 :=
  shapeCast S1024x1
    (multiReductionI .add [1] S1024
      (extui 32 (cmpf .oeq S (broadcastTo S1024x1024 m broadcasts_S1024x1_S1024x1024)) natLt_1_32)
      0#32 reduces_S1024x1024_S1024 rfl)
    shapeCasts_S1024_S1024x1

/-- What a round of the exact selection carries: the last maximum, the count still wanted, whether the row is
    settled, and its threshold. -/
structure Round (F : FTy → Type) where
  /-- the last maximum -/
  cur : FVec F S1024x1 .f32
  /-- the count still wanted -/
  rest : IVec S1024x1 32
  /-- whether the row is settled -/
  done : IVec S1024x1 1
  /-- the row's threshold -/
  thresh : FVec F S1024x1 .f32

/-- Whether a row is settled in this round. -/
def newly (done : IVec S1024x1 1) (c rest : IVec S1024x1 32) : IVec S1024x1 1 :=
  andi (xori done (constantI S1024x1 1 1#1)) (cmpi .sge c rest)

/-- The state the rounds start from. -/
def start : Round F where
  cur := broadcast S1024x1 (Scalar.ofBits .f32 0x7F800000#32)
  rest := broadcast S1024x1 5#32
  done := broadcast S1024x1 0#1
  thresh := broadcast S1024x1 (Scalar.ofBits .f32 0xFF800000#32)

/-- One round: the next smaller maximum, its count, and the threshold where the count now reaches five. -/
def next (S : FVec F S1024x1024 .f32) (r : Round F) : Round F where
  cur := below S r.cur
  rest := subi r.rest (select r.done (broadcast S1024x1 0#32) (occ S (below S r.cur)))
  done := ori r.done (newly r.done (occ S (below S r.cur)) r.rest)
  thresh := select (newly r.done (occ S (below S r.cur)) r.rest) (below S r.cur) r.thresh

/-- The exact selection: five rounds. -/
def exact5 (S : FVec F S1024x1024 .f32) : FVec F S1024x1 .f32 :=
  (next S (next S (next S (next S (next S start))))).thresh

/-- Each row's threshold, by the branch. -/
def threshold (S : FVec F S1024x1024 .f32) : FVec F S1024x1 .f32 :=
  if tied S = 1#1 then exact5 S else fifth S

/-- The similarities that reach their row's threshold, zero elsewhere. -/
def keep (S : FVec F S1024x1024 .f32) (d : FVec F S1024x1 .f32) : FVec F S1024x1024 .f32 :=
  select (cmpf .oge S (broadcastTo S1024x1024 d broadcasts_S1024x1_S1024x1024)) S
    (broadcast S1024x1024 (Scalar.ofBits .f32 0x00000000#32))

/-- A product with a 128 by 128 weight. -/
def times (h : FVec F S1024x128 .f32) (W : FVec F S128x128 .f32) : FVec F S1024x128 .f32 :=
  matmul dot_S1024x128_S128x128_S1024x128_1_0_0_1_n_n none h W (constant S1024x128 .f32 0x00000000#32)

/-- The larger of a vector and zero. -/
def relu (v : FVec F S1024x128 .f32) : FVec F S1024x128 .f32 :=
  maximumf v (broadcast S1024x128 (Scalar.ofBits .f32 0x00000000#32))

/-- A row vector, as every row. -/
def rows (b : FVec F S1x128 .f32) : FVec F S1024x128 .f32 :=
  broadcastTo S1024x128 (shapeCast S1x128 b shapeCasts_S1x128_S1x128) broadcasts_S1x128_S1024x128

/-- A column scaled into every column of a matrix. -/
def scale (z : FVec F S1024x128 .f32) (d : FVec F S1024x1 .f32) : FVec F S1024x128 .f32 :=
  mulf z (broadcastTo S1024x128 d broadcasts_S1024x1_S1024x128)

/-- The graph product with the normalised adjacency, before the bias. -/
def spread (S : FVec F S1024x1024 .f32) (d : FVec F S1024x1 .f32) (z : FVec F S1024x128 .f32) :
    FVec F S1024x128 .f32 :=
  scale (addf (matmul dot_S1024x1024_S1024x128_S1024x128_1_0_0_1_n_n none S (scale z d)
    (constant S1024x128 .f32 0x00000000#32)) (scale z d)) d

/-- A graph layer with its residual. -/
def layer (S : FVec F S1024x1024 .f32) (d : FVec F S1024x1 .f32) (z : FVec F S1024x128 .f32)
    (b : FVec F S1x128 .f32) (h : FVec F S1024x128 .f32) : FVec F S1024x128 .f32 :=
  addf (relu (addf (spread S d z) (rows b))) h

/-- The two graph layers. -/
def gcn (S : FVec F S1024x1024 .f32) (x : FVec F S1024x128 .f32) (W0 W1 : FVec F S128x128 .f32)
    (b0 b1 : FVec F S1x128 .f32) : FVec F S1024x128 .f32 :=
  layer S (invRoot S) (times (layer S (invRoot S) (times x W0) b0 x) W1) b1
    (layer S (invRoot S) (times x W0) b0 x)

/-- The two encodings' fusion: a hidden layer and a linear one. -/
def fuse (hg hl : FVec F S1024x128 .f32) (Wg0 : FVec F S256x128 .f32) (bg0 : FVec F S1x128 .f32)
    (Wg1 : FVec F S128x128 .f32) (bg1 : FVec F S1x128 .f32) : FVec F S1024x128 .f32 :=
  addf (times (relu (addf
      (addf (times hg (extractStridedSlice S128x128 ![0, 0] Wg0 slices_S256x128_o0_0_S128x128))
        (times hl (extractStridedSlice S128x128 ![128, 0] Wg0 slices_S256x128_o128_0_S128x128)))
      (rows bg0))) Wg1) (rows bg1)

/-- A row vector, as every row of a square of side 128. -/
def rows128 (b : FVec F S1x128 .f32) : FVec F S128x128 .f32 :=
  broadcastTo S128x128 (shapeCast S1x128 b shapeCasts_S1x128_S1x128) broadcasts_S1x128_S128x128

/-- The node layers: contracting the nodes, a hidden layer, and the last weighted sum. -/
def readout (cw : FVec F S1024x128 .f32) (Wn0 : FVec F S1024x128 .f32) (bn0 : FVec F S1x128 .f32)
    (Wn1 : FVec F S1x128 .f32) (bn1 : FVec F S1x1 .f32) : FVec F S128 .f32 :=
  addf (multiReduction .add [1] S128
      (mulf (maximumf (addf (matmul dot_S1024x128_S1024x128_S128x128_0_0_1_1_n_n none cw Wn0
          (constant S128x128 .f32 0x00000000#32)) (rows128 bn0))
        (broadcast S128x128 (Scalar.ofBits .f32 0x00000000#32))) (rows128 Wn1))
      0x00000000#32 reduces_S128x128_S128 (.inl rfl) rfl)
    (broadcast S128 (extractAt ![0, 0] bn1 inpos_S1x1_p0_0))

/-- One snapshot's result. -/
def snap (x : FVec F S1024x128 .f32) (W0 : FVec F S128x128 .f32) (b0 : FVec F S1x128 .f32)
    (W1 : FVec F S128x128 .f32) (b1 : FVec F S1x128 .f32) (Wg0 : FVec F S256x128 .f32) (bg0 : FVec F S1x128 .f32)
    (Wg1 : FVec F S128x128 .f32) (bg1 : FVec F S1x128 .f32) (Wn0 : FVec F S1024x128 .f32) (bn0 : FVec F S1x128 .f32)
    (Wn1 : FVec F S1x128 .f32) (bn1 : FVec F S1x1 .f32) : FVec F S128 .f32 :=
  readout (fuse (gcn (sims x) x W0 W1 b0 b1) (gcn (keep (sims x) (threshold (sims x))) x W0 W1 b0 b1)
    Wg0 bg0 Wg1 bg1) Wn0 bn0 Wn1 bn1

/-- One snapshot's result as the block's piece, from the snapshot as loaded. -/
def piece (x : FVec F S1x1024x128 .f32) (W0 : FVec F S128x128 .f32) (b0 : FVec F S1x128 .f32)
    (W1 : FVec F S128x128 .f32) (b1 : FVec F S1x128 .f32) (Wg0 : FVec F S256x128 .f32) (bg0 : FVec F S1x128 .f32)
    (Wg1 : FVec F S128x128 .f32) (bg1 : FVec F S1x128 .f32) (Wn0 : FVec F S1024x128 .f32) (bn0 : FVec F S1x128 .f32)
    (Wn1 : FVec F S1x128 .f32) (bn1 : FVec F S1x1 .f32) : FVec F S1x1x128 .f32 :=
  shapeCast S1x1x128 (snap (shapeCast S1024x128 x shapeCasts_S1x1024x128_S1024x128)
    W0 b0 W1 b1 Wg0 bg0 Wg1 bg1 Wn0 bn0 Wn1 bn1) shapeCasts_S128_S1x1x128

end Cert.KernelIdeal.Snap
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Snap
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Snap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The kernel's run

The body's branch computes vectors only, so a branch is the choice of a value, and the two parts that
hold one are straight lines (`part6_eq`, `part10_eq`). The body then leaves `block` of its input blocks in the output
buffer (`sound_kernel`), at any float type. -/

/-- A round from its maximum, its count and its settled rows. -/
theorem next_eq (S : FVec F S1024x1024 .f32) (d m : FVec F S1024x1 .f32) (r c : IVec S1024x1 32)
    (f n : IVec S1024x1 1) (t : FVec F S1024x1 .f32) (hm : below S d = m) (hc : occ S m = c) (hn : newly f c r = n) :
    next S ⟨d, r, f, t⟩ = ⟨m, subi r (select f (broadcast S1024x1 0#32) c), ori f n, select n m t⟩ := by
  subst hm; subst hc; subst hn; rfl

/-- The exact selection as the printed payloads spell it, round by round. -/
theorem exact5_eq (S : FVec F S1024x1024 .f32) :
    k0_pay64
      (k0_pay25 S (k0_pay12 S) (k0_pay13 S) (k0_pay14 S) (k0_pay15 S) k0_pay16)
      (k0_pay26 S (k0_pay13 S) (k0_pay14 S) (k0_pay15 S) k0_pay16)
      (k0_pay27 S (k0_pay15 S) k0_pay16) (k0_pay28 S (k0_pay15 S) k0_pay16)
      (k0_pay29 S (k0_pay13 S) (k0_pay14 S) (k0_pay15 S) k0_pay16) = exact5 S := by
  have h1 : next S start = next S ⟨broadcast S1024x1 (Scalar.ofBits .f32 0x7F800000#32), broadcast S1024x1 5#32,
      broadcast S1024x1 0#1, broadcast S1024x1 (Scalar.ofBits .f32 0xFF800000#32)⟩ := rfl
  have h1' : next S ⟨broadcast S1024x1 (Scalar.ofBits .f32 0x7F800000#32), broadcast S1024x1 5#32,
      broadcast S1024x1 0#1, broadcast S1024x1 (Scalar.ofBits .f32 0xFF800000#32)⟩ = ⟨k0_pay4 S, k0_pay7 S, k0_pay8 S, select (k0_pay6 S) (k0_pay4 S)
      (broadcast S1024x1 (Scalar.ofBits .f32 0xFF800000#32))⟩ :=
    next_eq S _ (k0_pay4 S) _ (k0_pay5 S) _ (k0_pay6 S) _ rfl rfl rfl
  have h2 : ∀ t, next S ⟨k0_pay4 S, k0_pay7 S, k0_pay8 S, t⟩
      = ⟨k0_pay9 S, k0_pay13 S, k0_pay14 S, select (k0_pay11 S) (k0_pay9 S) t⟩ := fun t =>
    next_eq S (k0_pay4 S) (k0_pay9 S) (k0_pay7 S) (k0_pay10 S) (k0_pay8 S) (k0_pay11 S) t rfl rfl rfl
  have e2 : select (k0_pay11 S) (k0_pay9 S) (select (k0_pay6 S) (k0_pay4 S)
      (broadcast S1024x1 (Scalar.ofBits .f32 0xFF800000#32))) = k0_pay12 S := rfl
  have m3 : below S (k0_pay9 S) = k0_pay17 S (k0_pay15 S) k0_pay16 := rfl
  unfold exact5
  rw [h1, h1', h2, e2]
  generalize k0_pay12 S = v353
  generalize k0_pay13 S = v356
  generalize k0_pay14 S = v357
  generalize k0_pay15 S = v359 at m3 ⊢
  generalize (k0_pay16 (F := F)) = v360 at m3 ⊢
  have h3 : next S ⟨k0_pay9 S, v356, v357, v353⟩ = ⟨k0_pay17 S v359 v360, k0_pay20 S v356 v357 v359 v360,
      k0_pay21 S v356 v357 v359 v360, select (k0_pay19 S v356 v357 v359 v360) (k0_pay17 S v359 v360) v353⟩ :=
    next_eq S (k0_pay9 S) (k0_pay17 S v359 v360) v356 (k0_pay18 S v359 v360) v357
      (k0_pay19 S v356 v357 v359 v360) v353 m3 rfl rfl
  have h4 : ∀ t, next S ⟨k0_pay17 S v359 v360, k0_pay20 S v356 v357 v359 v360, k0_pay21 S v356 v357 v359 v360, t⟩
      = ⟨k0_pay22 S v359 v360, k0_pay26 S v356 v357 v359 v360,
        ori (k0_pay21 S v356 v357 v359 v360) (k0_pay24 S v356 v357 v359 v360),
        select (k0_pay24 S v356 v357 v359 v360) (k0_pay22 S v359 v360) t⟩ := fun t =>
    next_eq S (k0_pay17 S v359 v360) (k0_pay22 S v359 v360) _ (k0_pay23 S v359 v360) _
      (k0_pay24 S v356 v357 v359 v360) t rfl rfl rfl
  have h5 : ∀ f r t, next S ⟨k0_pay22 S v359 v360, r, f, t⟩
      = ⟨k0_pay27 S v359 v360, subi r (select f (broadcast S1024x1 0#32) (k0_pay28 S v359 v360)),
        ori f (newly f (k0_pay28 S v359 v360) r),
        select (newly f (k0_pay28 S v359 v360) r) (k0_pay27 S v359 v360) t⟩ := fun f r t =>
    next_eq S (k0_pay22 S v359 v360) (k0_pay27 S v359 v360) r (k0_pay28 S v359 v360) f _ t rfl rfl rfl
  rw [h3, h4, h5]
  rfl

/-- The second snapshot's exact selection is spelt the same way. -/
theorem exact5_eq' (S : FVec F S1024x1024 .f32) :
    k0_pay79
      (k0_pay53 S (k0_pay40 S) (k0_pay41 S) (k0_pay42 S) (k0_pay43 S) k0_pay44)
      (k0_pay54 S (k0_pay41 S) (k0_pay42 S) (k0_pay43 S) k0_pay44)
      (k0_pay55 S (k0_pay43 S) k0_pay44) (k0_pay56 S (k0_pay43 S) k0_pay44)
      (k0_pay57 S (k0_pay41 S) (k0_pay42 S) (k0_pay43 S) k0_pay44) = exact5 S :=
  exact5_eq S

/-- The part with the first snapshot's branch, the branch as a choice. -/
def line6 (i : grid0.Coords) (arg1 : Memref sig .tc .vmem S2x1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S2x1x128 .f32) (harg14 : arg14.IsWhole)
    (v1 : FVec F S1024x128 .f32) (v2 : FVec F S1024x1024 .f32) (v9 : FVec F S1024x1 .f32) (v35 : FVec F S1024x1 .f32) (v40 : FVec F S1024x1024 .f32) :
    Prog (TpuEff nD τ sig (Elt F) Λ₀ .tc) (Σ' (v59 : FVec F S1024x1024 .f32) (v66 : FVec F S1024x1 .f32) (v67 : Vec F S128x128 .f32) (v69 : FVec F S1x128 .f32) (v71 : FVec F S1x128 .f32) (v73 : FVec F S1024x128 .f32), FVec F S1024x128 .f32) := do
  have v55 : FVec F S1024x1 .f32 :=
    if Scalar.cmpi .ne (Scalar.extui (Scalar.cmpf .ogt (k0_pay63 v40) (Scalar.ofBits .f32 0x00000000#32)) : BitVec 32) 0#32 = 1#1
    then exact5 v2 else v35
  let v67 : Vec F S128x128 .f32 ← Prog.lift (.load arg4 (Rect.unit (s := S128x128) ![0, 0] S128x128.size inb_S128x128_S128x128_0_0).toLoadRect (View.loadsAt_vmem h_S128x128))
  let v68 : Vec F S1x128 .f32 ← Prog.lift (.load arg3 (Rect.unit (s := S1x128) ![0, 0] S1x128.size inb_S1x128_S1x128_0_0).toLoadRect (View.loadsAt_vmem h_S1x128))
  let v70 : Vec F S1x128 .f32 ← Prog.lift (.load arg5 (Rect.unit (s := S1x128) ![0, 0] S1x128.size inb_S1x128_S1x128_0_0).toLoadRect (View.loadsAt_vmem h_S1x128))
  let v72 : Vec F S128x128 .f32 ← Prog.lift (.load arg2 (Rect.unit (s := S128x128) ![0, 0] S128x128.size inb_S128x128_S128x128_0_0).toLoadRect (View.loadsAt_vmem h_S128x128))
  pure ⟨k0_pay65 v2 v55, k0_pay66 v2 v55, v67, k0_pay67 v68, k0_pay68 v70, k0_pay69 v1 v72, k0_pay70 v1 v2 v9 v72⟩

/-- The part with the second snapshot's branch, the branch as a choice. -/
def line10 (i : grid0.Coords) (arg1 : Memref sig .tc .vmem S2x1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S2x1x128 .f32) (harg14 : arg14.IsWhole)
    (v159 : FVec F S1024x128 .f32) (v160 : FVec F S1024x1024 .f32) (v167 : FVec F S1024x1 .f32) (v193 : FVec F S1024x1 .f32) (v202 : IVec S1024x1 1) (cst_90 : F .f32) :
    Prog (TpuEff nD τ sig (Elt F) Λ₀ .tc) (Σ' (v217 : FVec F S1024x1024 .f32) (v224 : FVec F S1024x1 .f32) (v225 : Vec F S128x128 .f32) (v227 : FVec F S1x128 .f32) (v229 : FVec F S1x128 .f32) (v231 : FVec F S1024x128 .f32) (v242 : FVec F S1024x128 .f32), FVec F S1024x128 .f32) := do
  have v213 : FVec F S1024x1 .f32 :=
    if Scalar.cmpi .ne (Scalar.extui (Scalar.cmpf .ogt (k0_pay78 v202 cst_90) (Scalar.ofBits .f32 0x00000000#32)) : BitVec 32) 0#32 = 1#1
    then exact5 v160 else v193
  let v225 : Vec F S128x128 .f32 ← Prog.lift (.load arg4 (Rect.unit (s := S128x128) ![0, 0] S128x128.size inb_S128x128_S128x128_0_0).toLoadRect (View.loadsAt_vmem h_S128x128))
  let v226 : Vec F S1x128 .f32 ← Prog.lift (.load arg3 (Rect.unit (s := S1x128) ![0, 0] S1x128.size inb_S1x128_S1x128_0_0).toLoadRect (View.loadsAt_vmem h_S1x128))
  let v228 : Vec F S1x128 .f32 ← Prog.lift (.load arg5 (Rect.unit (s := S1x128) ![0, 0] S1x128.size inb_S1x128_S1x128_0_0).toLoadRect (View.loadsAt_vmem h_S1x128))
  let v230 : Vec F S128x128 .f32 ← Prog.lift (.load arg2 (Rect.unit (s := S128x128) ![0, 0] S128x128.size inb_S128x128_S128x128_0_0).toLoadRect (View.loadsAt_vmem h_S128x128))
  pure ⟨k0_pay80 v160 v213, k0_pay81 v160 v213, v225, k0_pay82 v226, k0_pay83 v228, k0_pay84 v159 v230, k0_pay85 v159 v160 v167 v226 v230, constant S1024x128 .f32 0x00000000#32⟩

set_option maxRecDepth 65536 in
/-- The first branch's part is its straight line. -/
theorem part6_eq : k0_part6 (F := F) = line6 (F := F) := by
  rw [k0_part6_eq_skeleton]
  funext i arg1 harg1 arg2 harg2 arg3 harg3 arg4 harg4 arg5 harg5 arg6 harg6 arg7 harg7 arg8 harg8 arg9 harg9 arg10 harg10 arg11 harg11 arg12 harg12 arg13 harg13 arg14 harg14 v1 v2 v9 v35 v40
  unfold k0_part6_skel line6
  simp only [k0_part1_eq_skeleton, k0_part2_eq_skeleton]
  rw [← exact5_eq]
  generalize (Scalar.cmpi .ne (Scalar.extui (Scalar.cmpf .ogt (k0_pay63 v40) (Scalar.ofBits .f32 0x00000000#32)) : BitVec 32) 0#32) = b
  by_cases h : b = 1#1
  · simp only [if_pos h]
    unfold k0_part1_skel k0_part2_skel
    simp only [pure_bind]
  · simp only [if_neg h, pure_bind]

set_option maxRecDepth 65536 in
/-- The second branch's part is its straight line. -/
theorem part10_eq : k0_part10 (F := F) = line10 (F := F) := by
  rw [k0_part10_eq_skeleton]
  funext i arg1 harg1 arg2 harg2 arg3 harg3 arg4 harg4 arg5 harg5 arg6 harg6 arg7 harg7 arg8 harg8 arg9 harg9 arg10 harg10 arg11 harg11 arg12 harg12 arg13 harg13 arg14 harg14 v159 v160 v167 v193 v202 cst_90
  unfold k0_part10_skel line10
  simp only [k0_part3_eq_skeleton, k0_part4_eq_skeleton]
  rw [← exact5_eq']
  generalize (Scalar.cmpi .ne (Scalar.extui (Scalar.cmpf .ogt (k0_pay78 v202 cst_90) (Scalar.ofBits .f32 0x00000000#32)) : BitVec 32) 0#32) = b
  by_cases h : b = 1#1
  · simp only [if_pos h]
    unfold k0_part3_skel k0_part4_skel
    simp only [pure_bind]
  · simp only [if_neg h, pure_bind]

/-! ## The block the body leaves -/

abbrev r0_0 : Rect S2x1024x128 := Rect.unit (s := S2x1024x128) ![0, 0, 0] S1x1024x128.size inb_S2x1024x128_S1x1024x128_0_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S256x128 := Rect.unit (s := S256x128) ![0, 0] S256x128.size inb_S256x128_S256x128_0_0
abbrev r0_4 : Rect S1024x128 := Rect.unit (s := S1024x128) ![0, 0] S1024x128.size inb_S1024x128_S1024x128_0_0
abbrev r0_5 : Rect S1x1 := Rect.unit (s := S1x1) ![0, 0] S1x1.size inb_S1x1_S1x1_0_0
abbrev r0_6 : Rect S2x1x128 := Rect.unit (s := S2x1x128) ![0, 0, 0] S1x1x128.size inb_S2x1x128_S1x1x128_0_0_0
abbrev r0_7 : Rect S2x1024x128 := Rect.unit (s := S2x1024x128) ![1, 0, 0] S1x1024x128.size inb_S2x1024x128_S1x1024x128_1_0_0
abbrev r0_8 : Rect S2x1x128 := Rect.unit (s := S2x1x128) ![1, 0, 0] S1x1x128.size inb_S2x1x128_S1x1x128_1_0_0

/-- A snapshot's piece from the input blocks: the snapshot `r` of the features with every weight whole. -/
def pieceOf (x : Vec F S1x1024x128 .f32) (x1 : Vec F S128x128 .f32) (x2 : Vec F S1x128 .f32) (x3 : Vec F S128x128 .f32) (x4 : Vec F S1x128 .f32) (x5 : Vec F S256x128 .f32) (x6 : Vec F S1x128 .f32) (x7 : Vec F S128x128 .f32) (x8 : Vec F S1x128 .f32) (x9 : Vec F S1024x128 .f32) (x10 : Vec F S1x128 .f32) (x11 : Vec F S1x128 .f32) (x12 : Vec F S1x1 .f32) : Vec F S1x1x128 .f32 :=
  piece x (View.ld x1 r0_1) (View.ld x2 r0_2) (View.ld x3 r0_1) (View.ld x4 r0_2) (View.ld x5 r0_3) (View.ld x6 r0_2)
    (View.ld x7 r0_1) (View.ld x8 r0_2) (View.ld x9 r0_4) (View.ld x10 r0_2) (View.ld x11 r0_2) (View.ld x12 r0_5)

/-- The output block after the body: the two snapshots' pieces. -/
def block (x0 : Vec F S2x1024x128 .f32) (x1 : Vec F S128x128 .f32) (x2 : Vec F S1x128 .f32) (x3 : Vec F S128x128 .f32) (x4 : Vec F S1x128 .f32) (x5 : Vec F S256x128 .f32) (x6 : Vec F S1x128 .f32) (x7 : Vec F S128x128 .f32) (x8 : Vec F S1x128 .f32) (x9 : Vec F S1024x128 .f32) (x10 : Vec F S1x128 .f32) (x11 : Vec F S1x128 .f32) (x12 : Vec F S1x1 .f32) : Vec F S2x1x128 .f32 :=
  View.canon [⟨r0_8, pieceOf (View.ld x0 r0_7) x1 x2 x3 x4 x5 x6 x7 x8 x9 x10 x11 x12⟩,
    ⟨r0_6, pieceOf (View.ld x0 r0_0) x1 x2 x3 x4 x5 x6 x7 x8 x9 x10 x11 x12⟩]

/-- The two stores cover the block. -/
theorem cover (p0 : Vec F S1x1x128 .f32) (p1 : Vec F S1x1x128 .f32) (y : S2x1x128.Idx) :
    ∃ pc ∈ ([⟨r0_8, p0⟩, ⟨r0_6, p1⟩] : List (View.Piece (Elt F) S2x1x128 .f32)), y ∈ pc.1.set :=
  View.cover_of_tiled [⟨r0_8, p0⟩, ⟨r0_6, p1⟩] S1x1x128.size (by rfl) y

/-! ## The body's triple -/

set_option maxHeartbeats 4000000 in
/-- The body, holding the input blocks, leaves them as they were and `block` of them in the output buffer. -/
theorem sound_kernel (c : Dev nD) (E : Set ℕ) (i : grid0.Coords) (arg1 : Memref sig .tc .vmem S2x1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1024x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S2x1x128 .f32) (harg14 : arg14.IsWhole)
    (x0 : Vec F S2x1024x128 .f32) (x1 : Vec F S128x128 .f32) (x2 : Vec F S1x128 .f32) (x3 : Vec F S128x128 .f32) (x4 : Vec F S1x128 .f32) (x5 : Vec F S256x128 .f32) (x6 : Vec F S1x128 .f32) (x7 : Vec F S128x128 .f32) (x8 : Vec F S1x128 .f32) (x9 : Vec F S1024x128 .f32) (x10 : Vec F S1x128 .f32) (x11 : Vec F S1x128 .f32) (x12 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (block x0 x1 x2 x3 x4 x5 x6 x7 x8 x9 x10 x11 x12)) -∗ K ⟨⟩))
      ⊢ wp frame (wpE (defs₀ (F := F)) Variants.none c none) E (cc0__snapshot_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__snapshot_kernel_eq_skeleton]; unfold cc0__snapshot_kernel_skel
  simp only [k0_part5_eq_skeleton, part6_eq, k0_part7_eq_skeleton, k0_part8_eq_skeleton, k0_part9_eq_skeleton,
    part10_eq, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (View.read_writes_eq_canon _ _ _ (cover _ _)).trans ?_
  rfl

/-! ## The pipeline's proof data and the run -/

variable (m : (ℓ : Loc nD τ sig) → Buf (Elt F) ℓ) (ρ : Dev nD → PrngReg)

/-- The arrays as the region finds them, each input's buffer at its block, the output's at `block` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
/-- The output buffer after the body at a point. -/
theorem after13 (c : Dev nD) (t : Fin cfg0.N) : (dats m 0 c).after 13 t = block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends, each pipeline array at what the proof data computes, every other buffer as the
    lines after the region leave it, and every semaphore at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Snap
-- ==== Proof.Frames.lean ====
/- The runs of the certificate's programs, read at their argument arrays and at the semaphore counters: the kernel's at
   the machine's own floats and at the ideal ones (one run, written once for any floats), and the reference's. -/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.ReferenceIdeal.Read
public import proofs.«01_k».proof.Proof.Gen.Pre_finite

@[expose] public section

set_option maxRecDepth 16384

noncomputable section

namespace Cert.Proof

open Idealize.ShloMosaic Idealize.SL.Sem

/-- The kernel's run at any floats: the argument arrays end unchanged and every semaphore counter ends at zero. -/
theorem kernel_unchanged {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0) :=
  θ_run_and (Cert.KernelIdeal.Gen.frame_of m ρ (Cert.KernelIdeal.Snap.dats m) (Cert.KernelIdeal.Snap.A_eq m)
      ((θ_run Cert.KernelIdeal.defs _ _).mono (fun _ h => h.1) (Cert.KernelIdeal.Snap.run_main m ρ)))
    ((θ_run Cert.KernelIdeal.defs _ _).mono (fun _ h => h.2) (Cert.KernelIdeal.Snap.run_main m ρ))

/-- The kernel body is printed alike for both kinds of floats. -/
theorem body_eq : @Cert.Kernel.cc0__snapshot_kernel Bits _ _ = @Cert.KernelIdeal.cc0__snapshot_kernel Bits _ _ := rfl
/-- Each staging buffer is printed alike in both programs. -/
theorem stage0_eq : Cert.Kernel.stage0_0 = Cert.KernelIdeal.stage0_0 := by
  funext k; match k with
  | 0 => rfl
  | 1 => rfl
theorem stage1_eq : Cert.Kernel.stage0_1 = Cert.KernelIdeal.stage0_1 := by
  funext k; match k with
  | 0 => rfl
theorem stage2_eq : Cert.Kernel.stage0_2 = Cert.KernelIdeal.stage0_2 := by
  funext k; match k with
  | 0 => rfl
theorem stage3_eq : Cert.Kernel.stage0_3 = Cert.KernelIdeal.stage0_3 := by
  funext k; match k with
  | 0 => rfl
theorem stage4_eq : Cert.Kernel.stage0_4 = Cert.KernelIdeal.stage0_4 := by
  funext k; match k with
  | 0 => rfl
theorem stage5_eq : Cert.Kernel.stage0_5 = Cert.KernelIdeal.stage0_5 := by
  funext k; match k with
  | 0 => rfl
theorem stage6_eq : Cert.Kernel.stage0_6 = Cert.KernelIdeal.stage0_6 := by
  funext k; match k with
  | 0 => rfl
theorem stage7_eq : Cert.Kernel.stage0_7 = Cert.KernelIdeal.stage0_7 := by
  funext k; match k with
  | 0 => rfl
theorem stage8_eq : Cert.Kernel.stage0_8 = Cert.KernelIdeal.stage0_8 := by
  funext k; match k with
  | 0 => rfl
theorem stage9_eq : Cert.Kernel.stage0_9 = Cert.KernelIdeal.stage0_9 := by
  funext k; match k with
  | 0 => rfl
theorem stage10_eq : Cert.Kernel.stage0_10 = Cert.KernelIdeal.stage0_10 := by
  funext k; match k with
  | 0 => rfl
theorem stage11_eq : Cert.Kernel.stage0_11 = Cert.KernelIdeal.stage0_11 := by
  funext k; match k with
  | 0 => rfl
theorem stage12_eq : Cert.Kernel.stage0_12 = Cert.KernelIdeal.stage0_12 := by
  funext k; match k with
  | 0 => rfl
theorem stage13_eq : Cert.Kernel.stage0_13 = Cert.KernelIdeal.stage0_13 := by
  funext k; match k with
  | 0 => rfl
  | 1 => rfl
/-- The two body tables are one. -/
theorem defs₀_eq : @Cert.Kernel.defs₀ Bits _ _ = @Cert.KernelIdeal.defs₀ Bits _ _ := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | 0, (t, s) =>
    dsimp only
    rw [body_eq]
    simp only [stage0_eq, stage1_eq, stage2_eq, stage3_eq, stage4_eq, stage5_eq, stage6_eq, stage7_eq, stage8_eq, stage9_eq, stage10_eq, stage11_eq, stage12_eq, stage13_eq]
    rfl
/-- The two programs, at the machine's floats, are one: a fact of the first is a fact of the second. -/
theorem defs_eq : Cert.Kernel.defs (F:=Bits) = Cert.KernelIdeal.defs (F:=Bits) := by
  unfold Cert.Kernel.defs Cert.KernelIdeal.defs
  exact congrArg (Pipeline.defs (Cert.KernelIdeal.pcfgs (F := Bits))) defs₀_eq

/-- The kernel at the machine's own floats runs, leaves its argument arrays as they were, and ends quiescent. -/
theorem frame_kernel : Cert.quiescent_Kernel := fun m ρ _ => by
  have h := kernel_unchanged (F := Bits) m ρ
  rw [← defs_eq] at h
  exact h

/-- The kernel at the ideal floats runs, leaves its argument arrays as they were, and ends quiescent. -/
theorem frame_kernelIdeal : Cert.quiescent_KernelIdeal := fun m ρ _ =>
  (θ_run Cert.KernelIdeal.defs _ _).mono (fun _ h => h) (kernel_unchanged (F := Ideal) m ρ)

/-- The same, under the precondition of the value claim. -/
theorem frame_kernelIdeal_finite : Cert.quiescent_KernelIdeal_pre_finite := fun m ρ _ =>
  (θ_run Cert.KernelIdeal.defs _ _).mono (fun _ h => h) (kernel_unchanged (F := Ideal) m ρ)

/-- The reference runs, leaves its argument arrays as they were, and ends quiescent: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition of the value claim. -/
theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
/- The array the kernel's pipeline leaves: row `s` holds snapshot `s`'s result. -/
module

public import proofs.«01_k».proof.Proof.Run
public import Idealize.ShloMosaic.Lib.Pointwise
public import Idealize.ShloMosaic.Lib.Pipeline.ValueKit
public import Idealize.ShloMosaic.Lib.Pipeline.RowLoads

@[expose] public section

set_option maxRecDepth 16384

noncomputable section

namespace Cert.KernelIdeal.Snap

open Idealize.ShloMosaic Idealize.ShloMosaic.TcCoe
open Idealize.ShloMosaic.Pipeline (Dat Cfg Window)
open Cert.KernelIdeal.Gen

variable {F : FTy → Type} [FloatOps F]

/-- Snapshot `s` of a stack of `n`. -/
def rowOf {n : Nat} (X : FVec F ⟨3, ![n, 1024, 128]⟩ .f32) (s : Fin n) : FVec F S1024x128 .f32 := fun k => X (ix3 s (k 0) (k 1))

/-- The stack of the snapshots' results. -/
def outArr (X : FVec F S16x1024x128 .f32) (W0 : FVec F S128x128 .f32) (b0 : FVec F S1x128 .f32)
    (W1 : FVec F S128x128 .f32) (b1 : FVec F S1x128 .f32) (Wg0 : FVec F S256x128 .f32) (bg0 : FVec F S1x128 .f32)
    (Wg1 : FVec F S128x128 .f32) (bg1 : FVec F S1x128 .f32) (Wn0 : FVec F S1024x128 .f32) (bn0 : FVec F S1x128 .f32)
    (Wn1 : FVec F S1x128 .f32) (bn1 : FVec F S1x1 .f32) : FVec F S16x1x128 .f32 := fun i =>
  snap (rowOf X (i 0)) W0 b0 W1 b1 Wg0 bg0 Wg1 bg1 Wn0 bn0 Wn1 bn1 (ix1 (i 2))

/-- A piece at an index is the snapshot's result there. -/
theorem piece_apply (x : FVec F S1x1024x128 .f32) (W0 : FVec F S128x128 .f32) (b0 : FVec F S1x128 .f32)
    (W1 : FVec F S128x128 .f32) (b1 : FVec F S1x128 .f32) (Wg0 : FVec F S256x128 .f32) (bg0 : FVec F S1x128 .f32)
    (Wg1 : FVec F S128x128 .f32) (bg1 : FVec F S1x128 .f32) (Wn0 : FVec F S1024x128 .f32) (bn0 : FVec F S1x128 .f32)
    (Wn1 : FVec F S1x128 .f32) (bn1 : FVec F S1x1 .f32) (o : Fin 128) :
    piece x W0 b0 W1 b1 Wg0 bg0 Wg1 bg1 Wn0 bn0 Wn1 bn1 (ix3 0 0 o)
      = snap (rowOf x 0) W0 b0 W1 b1 Wg0 bg0 Wg1 bg1 Wn0 bn0 Wn1 bn1 (ix1 o) := by
  have hx : shapeCast S1024x128 x shapeCasts_S1x1024x128_S1024x128 = rowOf x 0 := by
    funext k
    obtain ⟨i, f, rfl⟩ : ∃ (i : Fin 1024) (f : Fin 128), k = ix2 i f := ⟨k 0, k 1, funext fun a => match a with | ⟨0, _⟩ => rfl | ⟨1, _⟩ => rfl⟩
    show _ = x (ix3 0 i f)
    pointwise []
  unfold piece
  rw [hx]
  generalize snap (rowOf x 0) W0 b0 W1 b1 Wg0 bg0 Wg1 bg1 Wn0 bn0 Wn1 bn1 = y
  pointwise []

/-! A load of a whole buffer is the buffer. -/

theorem ld1 (W : FVec F S128x128 .f32) : View.ld (Val := Elt F) (e' := .f32) W r0_1 = W :=
  View.ld_unit_lit (Val := Elt F) (S := S128x128) (e := .f32) (off := ![0, 0]) _ W (by decide)
theorem ld2 (W : FVec F S1x128 .f32) : View.ld (Val := Elt F) (e' := .f32) W r0_2 = W :=
  View.ld_unit_lit (Val := Elt F) (S := S1x128) (e := .f32) (off := ![0, 0]) _ W (by decide)
theorem ld3 (W : FVec F S256x128 .f32) : View.ld (Val := Elt F) (e' := .f32) W r0_3 = W :=
  View.ld_unit_lit (Val := Elt F) (S := S256x128) (e := .f32) (off := ![0, 0]) _ W (by decide)
theorem ld4 (W : FVec F S1024x128 .f32) : View.ld (Val := Elt F) (e' := .f32) W r0_4 = W :=
  View.ld_unit_lit (Val := Elt F) (S := S1024x128) (e := .f32) (off := ![0, 0]) _ W (by decide)
theorem ld5 (W : FVec F S1x1 .f32) : View.ld (Val := Elt F) (e' := .f32) W r0_5 = W :=
  View.ld_unit_lit (Val := Elt F) (S := S1x1) (e := .f32) (off := ![0, 0]) _ W (by decide)

/-- The block at an index: the row's snapshot's result. -/
theorem block_apply (x : FVec F S2x1024x128 .f32) (W0 : FVec F S128x128 .f32) (b0 : FVec F S1x128 .f32)
    (W1 : FVec F S128x128 .f32) (b1 : FVec F S1x128 .f32) (Wg0 : FVec F S256x128 .f32) (bg0 : FVec F S1x128 .f32)
    (Wg1 : FVec F S128x128 .f32) (bg1 : FVec F S1x128 .f32) (Wn0 : FVec F S1024x128 .f32) (bn0 : FVec F S1x128 .f32)
    (Wn1 : FVec F S1x128 .f32) (bn1 : FVec F S1x1 .f32) (r : Fin 2) (o : Fin 128) :
    block x W0 b0 W1 b1 Wg0 bg0 Wg1 bg1 Wn0 bn0 Wn1 bn1 (ix3 r 0 o)
      = snap (rowOf x r) W0 b0 W1 b1 Wg0 bg0 Wg1 bg1 Wn0 bn0 Wn1 bn1 (ix1 o) := by
  have hp : ∀ (z : FVec F S1x1024x128 .f32), pieceOf z W0 b0 W1 b1 Wg0 bg0 Wg1 bg1 Wn0 bn0 Wn1 bn1 (ix3 0 0 o)
      = snap (rowOf z 0) W0 b0 W1 b1 Wg0 bg0 Wg1 bg1 Wn0 bn0 Wn1 bn1 (ix1 o) := by
    intro z
    unfold pieceOf
    rw [piece_apply]
    rw [ld1, ld2, ld1, ld2, ld3, ld2, ld1, ld2, ld4, ld2, ld2, ld5]
  have h0 : rowOf (n := 1) (F := F) (View.ld (Val := Elt F) (e' := .f32) x r0_0) 0 = rowOf x 0 := by
    funext k
    generalize hi : k 0 = i
    generalize hf : k 1 = f
    unfold rowOf
    rw [hi, hf]
    pointwise []
  have h1 : rowOf (n := 1) (F := F) (View.ld (Val := Elt F) (e' := .f32) x r0_7) 0 = rowOf x 1 := by
    funext k
    generalize hi : k 0 = i
    generalize hf : k 1 = f
    unfold rowOf
    rw [hi, hf]
    pointwise []
  unfold block
  match r with
  | 0 =>
    refine (View.canon_storedRow1_of_ne (K := 2) (n := 128) 0 1 (by decide) o _ _ _).trans ?_
    refine (View.canon_storedRow1 (K := 2) (n := 128) 0 o _ _ _).trans ?_
    exact (hp _).trans (by rw [h0])
  | 1 =>
    refine (View.canon_storedRow1 (K := 2) (n := 128) 1 o _ _ _).trans ?_
    exact (hp _).trans (by rw [h1])

variable (m : (ℓ : Loc nD τ sig) → Buf (Elt F) ℓ)

/-! Every weight's block is the weight. -/

theorem idx1 : ∀ t : Fin cfg0.N, win0_1.index t = ![0, 0] := (by decide +kernel : ∀ t : Fin grid0.N, _)
theorem iblk1 (c : Dev nD) (t : Fin cfg0.N) : iblk m c 1 t = V m c main_arg1 := by
  funext j
  blk_simp [iblk]
  exact congrArg _ (by blk_ext [idx1 t])
theorem idx2 : ∀ t : Fin cfg0.N, win0_2.index t = ![0, 0] := (by decide +kernel : ∀ t : Fin grid0.N, _)
theorem iblk2 (c : Dev nD) (t : Fin cfg0.N) : iblk m c 2 t = V m c main_v1 := by
  funext j
  blk_simp [iblk]
  exact congrArg _ (by blk_ext [idx2 t])
theorem idx3 : ∀ t : Fin cfg0.N, win0_3.index t = ![0, 0] := (by decide +kernel : ∀ t : Fin grid0.N, _)
theorem iblk3 (c : Dev nD) (t : Fin cfg0.N) : iblk m c 3 t = V m c main_arg3 := by
  funext j
  blk_simp [iblk]
  exact congrArg _ (by blk_ext [idx3 t])
theorem idx4 : ∀ t : Fin cfg0.N, win0_4.index t = ![0, 0] := (by decide +kernel : ∀ t : Fin grid0.N, _)
theorem iblk4 (c : Dev nD) (t : Fin cfg0.N) : iblk m c 4 t = V m c main_v2 := by
  funext j
  blk_simp [iblk]
  exact congrArg _ (by blk_ext [idx4 t])
theorem idx5 : ∀ t : Fin cfg0.N, win0_5.index t = ![0, 0] := (by decide +kernel : ∀ t : Fin grid0.N, _)
theorem iblk5 (c : Dev nD) (t : Fin cfg0.N) : iblk m c 5 t = V m c main_arg5 := by
  funext j
  blk_simp [iblk]
  exact congrArg _ (by blk_ext [idx5 t])
theorem idx6 : ∀ t : Fin cfg0.N, win0_6.index t = ![0, 0] := (by decide +kernel : ∀ t : Fin grid0.N, _)
theorem iblk6 (c : Dev nD) (t : Fin cfg0.N) : iblk m c 6 t = V m c main_v3 := by
  funext j
  blk_simp [iblk]
  exact congrArg _ (by blk_ext [idx6 t])
theorem idx7 : ∀ t : Fin cfg0.N, win0_7.index t = ![0, 0] := (by decide +kernel : ∀ t : Fin grid0.N, _)
theorem iblk7 (c : Dev nD) (t : Fin cfg0.N) : iblk m c 7 t = V m c main_arg7 := by
  funext j
  blk_simp [iblk]
  exact congrArg _ (by blk_ext [idx7 t])
theorem idx8 : ∀ t : Fin cfg0.N, win0_8.index t = ![0, 0] := (by decide +kernel : ∀ t : Fin grid0.N, _)
theorem iblk8 (c : Dev nD) (t : Fin cfg0.N) : iblk m c 8 t = V m c main_v4 := by
  funext j
  blk_simp [iblk]
  exact congrArg _ (by blk_ext [idx8 t])
theorem idx9 : ∀ t : Fin cfg0.N, win0_9.index t = ![0, 0] := (by decide +kernel : ∀ t : Fin grid0.N, _)
theorem iblk9 (c : Dev nD) (t : Fin cfg0.N) : iblk m c 9 t = V m c main_arg9 := by
  funext j
  blk_simp [iblk]
  exact congrArg _ (by blk_ext [idx9 t])
theorem idx10 : ∀ t : Fin cfg0.N, win0_10.index t = ![0, 0] := (by decide +kernel : ∀ t : Fin grid0.N, _)
theorem iblk10 (c : Dev nD) (t : Fin cfg0.N) : iblk m c 10 t = V m c main_v5 := by
  funext j
  blk_simp [iblk]
  exact congrArg _ (by blk_ext [idx10 t])
theorem idx11 : ∀ t : Fin cfg0.N, win0_11.index t = ![0, 0] := (by decide +kernel : ∀ t : Fin grid0.N, _)
theorem iblk11 (c : Dev nD) (t : Fin cfg0.N) : iblk m c 11 t = V m c main_v6 := by
  funext j
  blk_simp [iblk]
  exact congrArg _ (by blk_ext [idx11 t])
theorem idx12 : ∀ t : Fin cfg0.N, win0_12.index t = ![0, 0] := (by decide +kernel : ∀ t : Fin grid0.N, _)
theorem iblk12 (c : Dev nD) (t : Fin cfg0.N) : iblk m c 12 t = V m c main_v7 := by
  funext j
  blk_simp [iblk]
  exact congrArg _ (by blk_ext [idx12 t])

theorem idx0 : ∀ t : Fin cfg0.N, win0_0.index t = ![t.val, 0, 0] := (by decide +kernel : ∀ t : Fin grid0.N, _)
theorem idx13 : ∀ t : Fin cfg0.N, win0_13.index t = ![t.val, 0, 0] := (by decide +kernel : ∀ t : Fin grid0.N, _)

/-- Two rows at a time: row `r` of a point's block of features is snapshot `2 t + r`. -/
theorem iblk0 (c : Dev nD) (t : Fin cfg0.N) (r : Fin 2) (s : Fin 16) (hs : s.val = t.val * 2 + r.val) :
    rowOf (F := F) (n := 2) (iblk m c 0 t) r = rowOf (F := F) (n := 16) (V m c main_v0) s := by
  funext k
  unfold rowOf
  blk_simp [iblk]
  exact congrArg _ (by blk_ext [idx0 t])

/-- The output array after the run. -/
theorem final (c : Dev nD) : (dats m 0 c).arrAt 13 cfg0.N
    = outArr (V m c main_v0) (V m c main_arg1) (V m c main_v1) (V m c main_arg3) (V m c main_v2) (V m c main_arg5) (V m c main_v3)
      (V m c main_arg7) (V m c main_v4) (V m c main_arg9) (V m c main_v5) (V m c main_v6) (V m c main_v7) := by
  refine (dats m 0 c).arrAt_eq_of_covers 13 _ (by decide +kernel) fun t hf y => ?_
  blk_simp
  rw [after13]
  rw [iblk1, iblk2, iblk3, iblk4, iblk5, iblk6, iblk7, iblk8, iblk9, iblk10, iblk11, iblk12]
  revert y
  show ∀ y : S2x1x128.Idx, _ = outArr _ _ _ _ _ _ _ _ _ _ _ _ _ ((win0_13.blk t).view.emb y)
  intro y
  obtain ⟨r, o, rfl⟩ : ∃ (r : Fin 2) (o : Fin 128), y = ix3 r 0 o := ⟨y 0, y 2, funext fun a => match a with
    | ⟨0, _⟩ => rfl | ⟨1, _⟩ => Fin.ext (Nat.lt_one_iff.mp (y 1).isLt) | ⟨2, _⟩ => rfl⟩
  refine (block_apply _ _ _ _ _ _ _ _ _ _ _ _ _ r o).trans ?_
  have e0 : ((((win0_13.blk t).view.emb (ix3 r 0 o)) 0 : Fin 16) : ℕ) = t.val * 2 + r.val := by
    blk_simp [idx13 t]
  have e2 : (((win0_13.blk t).view.emb (ix3 r 0 o)) 2 : Fin 128) = o := by
    apply Fin.ext; blk_simp [idx13 t]
  unfold outArr
  rw [iblk0 m c t r _ e0, e2]

end Cert.KernelIdeal.Snap

end
-- ==== Proof.Kth.lean ====
/- The k-th largest entry of a finite family of extended reals: what determines it, that a sorted list has it in its
   place, that a chain of strict maxima finds it when it is hit exactly, and that counted rounds always find it. -/
module

public import Idealize.ShloMosaic.Lib.SortFacts
public import Idealize.ShloMosaic.Lib.IdealHost
public import Idealize.ShloMosaic.Lib.ValueIdxCore

@[expose] public section

noncomputable section

namespace Cert.Proof.Kth

open Idealize.ShloMosaic Finset

variable {N : ℕ} (s : Fin N → EReal)

/-- How many entries reach a value. -/
def reached (t : EReal) : ℕ := #{j | t ≤ s j}

/-- How many entries exceed a value. -/
def exceed (t : EReal) : ℕ := #{j | t < s j}

/-- How many entries equal a value. -/
def equal (t : EReal) : ℕ := #{j | s j = t}

/-- `t` is the `k`-th largest entry: fewer than `k` exceed it and at least `k` reach it. -/
def IsKth (k : ℕ) (t : EReal) : Prop := exceed s t < k ∧ k ≤ reached s t

/-- The greatest of the entries strictly below a bound, `⊥` if there is none. -/
def below (d : EReal) : EReal := univ.sup fun j => if s j < d then s j else ⊥

variable {s}

/-- Of two `k`-th largest entries neither is below the other. -/
theorem IsKth.asymm {k : ℕ} {t u : EReal} (ht : IsKth s k t) (hu : IsKth s k u) : ¬ t < u := fun h => by
  have : reached s u ≤ exceed s t := card_le_card fun j => by
    simp only [mem_filter, mem_univ, true_and]; exact fun hj => lt_of_lt_of_le h hj
  have := ht.1; have := hu.2; omega

/-- The `k`-th largest entry is unique. -/
theorem IsKth.unique {k : ℕ} {t u : EReal} (ht : IsKth s k t) (hu : IsKth s k u) : t = u :=
  le_antisymm (not_lt.1 (hu.asymm ht)) (not_lt.1 (ht.asymm hu))

/-- Read in descending order, position `k` holds the `k+1`-st largest entry. -/
theorem isKth_of_sorted (p : Fin N → Fin N) (hp : Function.Injective p)
    (hs : ∀ i j, i < j → ¬ s (p i) < s (p j)) (k : Fin N) : IsKth s (k.val + 1) (s (p k)) := by
  have hb : Function.Bijective p := hp.bijective_of_finite
  constructor
  · have : exceed s (s (p k)) ≤ #((univ.filter fun i : Fin N => i < k).image p) := card_le_card fun j => by
      simp only [mem_filter, mem_univ, true_and, mem_image]
      obtain ⟨i, rfl⟩ := hb.2 j
      intro h
      refine ⟨i, ?_, rfl⟩
      by_contra hik
      rcases lt_or_eq_of_le (not_lt.1 hik) with h1 | h1
      · exact hs _ _ h1 h
      · subst h1; exact lt_irrefl _ h
    have h2 := card_image_le (s := univ.filter fun i : Fin N => i < k) (f := p)
    rw [show (univ.filter fun i : Fin N => i < k) = Iio k from by ext; simp, Fin.card_Iio] at h2
    rw [show (univ.filter fun i : Fin N => i < k) = Iio k from by ext; simp] at this
    omega
  · have : #((univ.filter fun i : Fin N => i ≤ k).image p) ≤ reached s (s (p k)) := card_le_card fun j => by
      simp only [mem_filter, mem_univ, true_and, mem_image]
      rintro ⟨i, hi, rfl⟩
      rcases lt_or_eq_of_le hi with h1 | h1
      · exact not_lt.1 (hs _ _ h1)
      · subst h1; exact le_rfl
    rw [card_image_of_injective _ hp, show (univ.filter fun i : Fin N => i ≤ k) = Iic k from by ext; simp, Fin.card_Iic] at this
    omega

theorem below_attained {d : EReal} (h : below s d ≠ ⊥) : ∃ j, s j < d ∧ s j = below s d := by
  have hne : (univ : Finset (Fin N)).Nonempty := by
    by_contra h0
    rw [not_nonempty_iff_eq_empty] at h0
    exact h (by unfold below; rw [h0, sup_empty])
  obtain ⟨j, -, hj⟩ := exists_mem_eq_sup univ hne fun j => if s j < d then s j else ⊥
  change below s d = _ at hj
  by_cases hlt : s j < d
  · exact ⟨j, hlt, by rw [hj, if_pos hlt]⟩
  · exact absurd (by rw [hj, if_neg hlt]) h

theorem le_below {d : EReal} {j : Fin N} (h : s j < d) : s j ≤ below s d := by
  have := le_sup (f := fun j => if s j < d then s j else ⊥) (mem_univ j)
  simp only [if_pos h] at this
  exact this

theorem below_lt {d : EReal} {j : Fin N} (h : s j < d) : below s d < d :=
  (Finset.sup_lt_iff (bot_le.trans_lt h)).2 fun i _ => by
    by_cases hi : s i < d
    · rw [if_pos hi]; exact hi
    · rw [if_neg hi]; exact bot_le.trans_lt h

/-- A strict maximum that exactly `k` of more than `k` entries reach is the `k`-th largest. -/
theorem isKth_below {k : ℕ} {d : EReal} (hN : k < N) (h : reached s (below s d) = k) : IsKth s k (below s d) := by
  refine ⟨?_, h.ge⟩
  have hb : below s d ≠ ⊥ := fun hb => by
    rw [hb] at h; unfold reached at h
    simp only [bot_le, filter_true, card_univ, Fintype.card_fin] at h; omega
  obtain ⟨j, -, hj⟩ := below_attained hb
  rw [← h]
  refine card_lt_card ⟨fun i => ?_, fun hc => ?_⟩
  · simp only [mem_filter, mem_univ, true_and]; exact le_of_lt
  · have := @hc j (by simp only [mem_filter, mem_univ, true_and]; exact hj.ge)
    simp only [mem_filter, mem_univ, true_and, hj, lt_irrefl] at this

theorem exceed_below {d : EReal} {j : Fin N} (h : s j < d) : exceed s (below s d) = reached s d := by
  unfold exceed reached
  congr 1; ext i
  simp only [mem_filter, mem_univ, true_and]
  exact ⟨fun hi => not_lt.1 fun hd => absurd (le_below hd) (not_le.2 hi), fun hi => lt_of_lt_of_le (below_lt h) hi⟩

theorem reached_eq (t : EReal) : reached s t = exceed s t + equal s t := by
  unfold reached exceed equal
  rw [← card_union_of_disjoint]
  · congr 1; ext i
    simp only [mem_filter, mem_univ, true_and, mem_union]
    exact ⟨fun h => (lt_or_eq_of_le h).imp id Eq.symm, fun h => h.elim le_of_lt Eq.ge⟩
  · rw [disjoint_filter]; exact fun i _ h e => absurd e h.ne'

/-- What holds between rounds of counted strict maxima: the row is settled and its threshold the fifth largest entry, or
    the count still wanted and the entries already passed make five, at least one of them for each round. -/
def Inv (s : Fin N → EReal) (n : ℕ) (cur : EReal) (rest : BitVec 32) (done : BitVec 1) (th : EReal) : Prop :=
  (done = 1#1 ∧ IsKth s 5 th) ∨
    (done = 0#1 ∧ ∃ r : ℕ, rest = BitVec.ofNat 32 r ∧ 1 ≤ r ∧ r + reached s cur = 5 ∧ n ≤ reached s cur)

theorem Inv.start (hs : ∀ j, s j < ⊤) (th : EReal) : Inv s 0 ⊤ 5#32 0#1 th := by
  refine Or.inr ⟨rfl, 5, rfl, by omega, ?_, Nat.zero_le _⟩
  have : reached s ⊤ = 0 := by
    unfold reached; rw [card_eq_zero, filter_eq_empty_iff]; exact fun j _ => not_le.2 (hs j)
  omega

theorem sge_small {c r : ℕ} (hc : c < 2 ^ 31) (hr : r < 2 ^ 31) :
    IntOp.cmpi .sge (BitVec.ofNat 32 c) (BitVec.ofNat 32 r) = BitVec.ofBool (decide (r ≤ c)) := by
  show BitVec.ofBool _ = _
  congr 1
  rw [Bool.eq_iff_iff]
  simp only [BitVec.sle_iff_toInt_le, decide_eq_true_eq]
  rw [BitVec.toInt_eq_toNat_of_lt (by simp; omega), BitVec.toInt_eq_toNat_of_lt (by simp; omega)]
  simp only [BitVec.toNat_ofNat]
  omega

theorem equal_le (t : EReal) : equal s t ≤ N := by
  have := card_filter_le (univ : Finset (Fin N)) (fun j => s j = t)
  simpa [equal] using this

/-- One round keeps the invariant and passes at least one more entry. -/
theorem Inv.next (hN : 5 ≤ N) (hN' : N < 2 ^ 31) {n : ℕ} {cur th : EReal} {rest c : BitVec 32} {done : BitVec 1}
    (h : Inv s n cur rest done th) (hc : c = BitVec.ofNat 32 (equal s (below s cur))) :
    Inv s (n + 1) (below s cur) (IntOp.subi rest (Scalar.select done 0#32 c))
      (IntOp.ori done (IntOp.andi (IntOp.xori done 1#1) (IntOp.cmpi .sge c rest)))
      (Scalar.select (IntOp.andi (IntOp.xori done 1#1) (IntOp.cmpi .sge c rest)) (below s cur) th) := by
  rcases h with ⟨rfl, h⟩ | ⟨rfl, r, rfl, hr, hsum, hn⟩
  · left
    have e : IntOp.andi (IntOp.xori (1#1 : BitVec 1) 1#1) (IntOp.cmpi .sge c rest) = 0#1 := by
      generalize IntOp.cmpi .sge c rest = b
      revert b; decide
    rw [e]
    exact ⟨by decide, h⟩
  · have hex : ∃ j, s j < cur := by
      by_contra hno
      push Not at hno
      have : reached s cur = N := by
        unfold reached; rw [filter_true_of_mem fun j _ => hno j]; simp
      omega
    obtain ⟨j, hj⟩ := hex
    have h1 := exceed_below hj
    have h2 := reached_eq (s := s) (below s cur)
    have hpos : 1 ≤ equal s (below s cur) := by
      have hd : below s cur = s j ∨ below s cur ≠ s j := em _
      have : ∃ i, s i = below s cur := by
        by_cases hb : below s cur = ⊥
        · exact ⟨j, le_antisymm (le_below hj) (by rw [hb]; exact bot_le)⟩
        · obtain ⟨i, -, hi⟩ := below_attained hb; exact ⟨i, hi⟩
      obtain ⟨i, hi⟩ := this
      exact card_pos.2 ⟨i, by simp only [mem_filter, mem_univ, true_and]; exact hi⟩
    have hle := equal_le (s := s) (below s cur)
    subst hc
    rw [sge_small (by omega) (by omega)]
    by_cases hrc : r ≤ equal s (below s cur)
    · left
      rw [decide_eq_true hrc]
      exact ⟨by decide, by
        show IsKth s 5 (below s cur)
        exact ⟨by omega, by omega⟩⟩
    · right
      rw [decide_eq_false hrc]
      refine ⟨by decide, r - equal s (below s cur), ?_, by omega, by omega, by omega⟩
      show BitVec.ofNat 32 r - BitVec.ofNat 32 (equal s (below s cur)) = _
      apply BitVec.eq_of_toNat_eq
      rw [BitVec.toNat_sub, BitVec.toNat_ofNat, BitVec.toNat_ofNat, BitVec.toNat_ofNat]
      omega

/-- After five rounds the threshold is the fifth largest entry. -/
theorem Inv.isKth {cur th : EReal} {rest : BitVec 32} {done : BitVec 1} (h : Inv s 5 cur rest done th) : IsKth s 5 th := by
  rcases h with ⟨-, h⟩ | ⟨-, r, -, hr, hsum, hn⟩
  · exact h
  · omega

end Cert.Proof.Kth

end
-- ==== Proof.Graph.lean ====
/- A graph layer over the extended reals, written two ways: the weights applied first and the normalising factors taken
   out of the sum, and the normalised adjacency formed first and the weights applied last. On finite entries with a
   nonnegative diagonal the two agree. -/
module

public import Idealize.ShloMosaic.Lib.IdealHost
public import Idealize.ShloMosaic.Lib.ValueIdxCore

@[expose] public section

noncomputable section

namespace Cert.Proof.Graph

open Idealize.ShloMosaic Finset

variable {N D : ℕ}

/-- The identity matrix. -/
def eye (i j : Fin N) : EReal := if i = j then 1 else 0

/-- A matrix product. -/
def times (h : Fin N → Fin D → EReal) (W : Fin D → Fin D → EReal) (i : Fin N) (o : Fin D) : EReal :=
  ∑ f, h i f * W f o

/-- The reciprocal root of a row's sum of absolute values plus one and `e`. -/
def invRoot (e : EReal) (S : Fin N → Fin N → EReal) (i : Fin N) : EReal :=
  Ideal.rsqrt ((∑ j, max (S i j) (-S i j)) + (1 + e))

/-- The same with the one inside, on the diagonal. -/
def invSqrt (e : EReal) (S : Fin N → Fin N → EReal) (i : Fin N) : EReal :=
  Ideal.div 1 (Ideal.sqrt ((∑ j, max (S i j + eye i j) (-(S i j + eye i j))) + e))

/-- A layer, the weights applied first. -/
def layer (S : Fin N → Fin N → EReal) (d : Fin N → EReal) (z : Fin N → Fin D → EReal) (b : Fin D → EReal)
    (h : Fin N → Fin D → EReal) (i : Fin N) (o : Fin D) : EReal :=
  max (((∑ m, S i m * (z m o * d m)) + z i o * d i) * d i + b o) 0 + h i o

/-- A layer, the normalised adjacency formed first. -/
def layer' (S : Fin N → Fin N → EReal) (d : Fin N → EReal) (W : Fin D → Fin D → EReal) (b : Fin D → EReal)
    (h : Fin N → Fin D → EReal) (i : Fin N) (o : Fin D) : EReal :=
  max ((∑ f, (∑ m, h m f * ((d i * (S i m + eye i m)) * d m)) * W f o) + b o) 0 + h i o

/-- Two layers of the first kind. -/
def gcn (e : EReal) (S : Fin N → Fin N → EReal) (x : Fin N → Fin D → EReal) (W0 W1 : Fin D → Fin D → EReal)
    (b0 b1 : Fin D → EReal) : Fin N → Fin D → EReal :=
  layer S (invRoot e S) (times (layer S (invRoot e S) (times x W0) b0 x) W1) b1
    (layer S (invRoot e S) (times x W0) b0 x)

/-- Two layers of the second kind. -/
def gcn' (e : EReal) (S : Fin N → Fin N → EReal) (x : Fin N → Fin D → EReal) (W0 W1 : Fin D → Fin D → EReal)
    (b0 b1 : Fin D → EReal) : Fin N → Fin D → EReal :=
  layer' S (invSqrt e S) W1 b1 (layer' S (invSqrt e S) W0 b0 x)

/-! ## Finite entries -/

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [sum_insert ha, sum_insert ha, EReal.coe_add, ih]

theorem coe_abs (x : ℝ) : max (x : EReal) (-(x : EReal)) = ((|x| : ℝ) : EReal) := by
  rw [← EReal.coe_neg, abs_eq_max_neg]
  exact (EReal.coe_strictMono.monotone.map_max).symm

theorem coe_max_zero (x : ℝ) : max (x : EReal) 0 = ((max x 0 : ℝ) : EReal) :=
  (EReal.coe_strictMono.monotone.map_max (a := x) (b := 0)).symm

theorem eye_coe (i j : Fin N) : (eye i j : EReal) = ((if i = j then 1 else 0 : ℝ) : EReal) := by
  unfold eye; split <;> simp

/-- The degree with the one on the diagonal is the degree plus one. -/
theorem degree (S : Fin N → ℝ) (i : Fin N) (h : 0 ≤ S i) :
    ∑ j, |S j + (if i = j then 1 else 0)| = (∑ j, |S j|) + 1 := by
  have : ∀ j, |S j + (if i = j then 1 else 0)| = |S j| + (if i = j then 1 else 0) := fun j => by
    split
    · next e => subst e; rw [abs_of_nonneg h, abs_of_nonneg (by linarith)]
    · simp
  simp only [this, sum_add_distrib, sum_ite_eq, mem_univ, if_true]

/-- The two normalising factors of a finite row are one real number. -/
theorem invRoot_coe (e : ℝ) (he : 0 ≤ e) (S S' : Fin N → Fin N → EReal) (i : Fin N) (σ : Fin N → ℝ)
    (hs : ∀ j, S i j = (σ j : EReal)) (hs' : ∀ j, S' i j = (σ j : EReal)) (h : 0 ≤ σ i) :
    ∃ d : ℝ, invRoot (e : EReal) S i = d ∧ invSqrt (e : EReal) S' i = d := by
  refine ⟨(Real.sqrt ((∑ j, |σ j|) + (1 + e)))⁻¹, ?_, ?_⟩
  · unfold invRoot
    simp only [hs, coe_abs]
    rw [← coe_sum, ← EReal.coe_one, ← EReal.coe_add, ← EReal.coe_add]
    have hp : 0 < (∑ j, |σ j|) + (1 + e) := by
      have := sum_nonneg (s := univ) fun j (_ : j ∈ univ) => abs_nonneg (σ j); linarith
    show (if _ then _ else if _ then _ else _) = _
    rw [if_neg hp.le.not_gt, if_neg hp.ne']
  · unfold invSqrt
    simp only [hs', eye_coe, ← EReal.coe_add, coe_abs]
    rw [← coe_sum, ← EReal.coe_add, degree σ i h, add_assoc]
    have hp : 0 < (∑ j, |σ j|) + (1 + e) := by
      have := sum_nonneg (s := univ) fun j (_ : j ∈ univ) => abs_nonneg (σ j); linarith
    have hs : Ideal.sqrt (((∑ j, |σ j|) + (1 + e) : ℝ) : EReal) = (Real.sqrt ((∑ j, |σ j|) + (1 + e)) : EReal) := by
      show (if _ then _ else _) = _
      rw [if_neg hp.le.not_gt]
    rw [hs]
    unfold Ideal.div
    rw [if_neg (by rw [← EReal.coe_zero, EReal.coe_eq_coe_iff]; exact (Real.sqrt_pos.2 hp).ne'), one_mul, EReal.coe_inv]

/-- An infinite number. -/
def Inf (a : EReal) : Prop := a = ⊤ ∨ a = ⊥

/-- A number that is not infinite is real. -/
theorem real_of_not_inf {a : EReal} (h : ¬ Inf a) : ∃ r : ℝ, a = (r : EReal) :=
  ⟨a.toReal, (EReal.coe_toReal (fun e => h (Or.inl e)) (fun e => h (Or.inr e))).symm⟩

/-- Absolute values are not negative. -/
theorem abs_nonneg' (a : EReal) : 0 ≤ max a (-a) := by
  rcases le_total 0 a with h | h
  · exact le_max_of_le_left h
  · exact le_max_of_le_right (EReal.neg_nonneg.2 h)

/-- A sum of absolute values one of which is infinite is infinite. -/
theorem sum_abs_top (a : Fin N → EReal) (j : Fin N) (h : Inf (a j)) : ∑ j, max (a j) (-(a j)) = ⊤ := by
  have hj : max (a j) (-(a j)) = ⊤ := by
    rcases h with h | h <;> rw [h] <;> simp
  refine top_le_iff.1 ?_
  rw [← hj]
  exact single_le_sum (f := fun j => max (a j) (-(a j))) (fun j _ => abs_nonneg' (a j)) (mem_univ j)

/-- The first normalising factor of a row with an infinite entry is zero. -/
theorem invRoot_inf (e : ℝ) (S : Fin N → Fin N → EReal) (i j : Fin N) (h : Inf (S i j)) : invRoot (e : EReal) S i = 0 := by
  unfold invRoot
  rw [sum_abs_top (S i) j h, ← EReal.coe_one, ← EReal.coe_add, EReal.top_add_coe]
  rfl

/-- So is the second. -/
theorem invSqrt_inf (e : ℝ) (S : Fin N → Fin N → EReal) (i j : Fin N) (h : Inf (S i j)) : invSqrt (e : EReal) S i = 0 := by
  have hj : Inf (S i j + eye i j) := by
    rw [eye_coe]
    rcases h with h | h <;> rw [h]
    · exact Or.inl (EReal.top_add_coe _)
    · exact Or.inr (EReal.bot_add _)
  unfold invSqrt
  rw [sum_abs_top (fun j => S i j + eye i j) j hj, EReal.top_add_coe]
  show Ideal.div 1 ⊤ = 0
  unfold Ideal.div
  rw [if_neg EReal.top_ne_zero, EReal.inv_top, mul_zero]

/-- The two products agree on real entries. -/
theorem spread_real (S : Fin N → Fin N → ℝ) (d : Fin N → ℝ) (W : Fin D → Fin D → ℝ) (h : Fin N → Fin D → ℝ)
    (i : Fin N) (o : Fin D) :
    ((∑ m, S i m * ((∑ f, h m f * W f o) * d m)) + (∑ f, h i f * W f o) * d i) * d i
      = ∑ f, (∑ m, h m f * ((d i * (S i m + (if i = m then 1 else 0))) * d m)) * W f o := by
  simp only [sum_mul, mul_sum, add_mul, mul_add, sum_add_distrib, ite_mul, mul_ite, mul_one, mul_zero, zero_mul,
    sum_ite_eq, mem_univ, if_true]
  congr 1
  · rw [sum_comm]
    exact sum_congr rfl fun f _ => sum_congr rfl fun m _ => by ring
  · exact sum_congr rfl fun f _ => by ring

/-- What a layer of either kind holds at real entries, before its bias. -/
theorem spread_coe (S : Fin N → Fin N → ℝ) (d : Fin N → ℝ) (W : Fin D → Fin D → ℝ) (h : Fin N → Fin D → ℝ)
    (i : Fin N) (o : Fin D) :
    ∃ r : ℝ, ((∑ m, (S i m : EReal) * ((times (fun i f => (h i f : EReal)) (fun f o => (W f o : EReal)) m o) * (d m : EReal)))
        + (times (fun i f => (h i f : EReal)) (fun f o => (W f o : EReal)) i o) * (d i : EReal)) * (d i : EReal) = (r : EReal) ∧
      (∑ f, (∑ m, (h m f : EReal) * (((d i : EReal) * ((S i m : EReal) + eye i m)) * (d m : EReal))) * (W f o : EReal)) = (r : EReal) := by
  refine ⟨∑ f, (∑ m, h m f * ((d i * (S i m + (if i = m then 1 else 0))) * d m)) * W f o, ?_, ?_⟩
  · rw [← spread_real]
    simp only [times, ← EReal.coe_add, ← EReal.coe_mul, ← coe_sum]
  · simp only [eye_coe, ← EReal.coe_add, ← EReal.coe_mul, ← coe_sum]

/-- What a layer of either kind holds before its bias, one real number: a row of the graph, or a node's features, count
    only where the normalising factor is not zero. -/
theorem spread (S S' : Fin N → Fin N → EReal) (d : Fin N → ℝ) (W : Fin D → Fin D → ℝ) (h : Fin N → Fin D → EReal)
    (hd : ∀ i, d i = 0 ∨ (∃ σ : Fin N → ℝ, ∀ j, S i j = (σ j : EReal) ∧ S' i j = (σ j : EReal)) ∧
      ∃ η : Fin D → ℝ, ∀ f, h i f = (η f : EReal)) (i : Fin N) (o : Fin D) :
    ∃ r : ℝ, ((∑ m, S i m * ((times h (fun f o => (W f o : EReal)) m o) * (d m : EReal)))
        + (times h (fun f o => (W f o : EReal)) i o) * (d i : EReal)) * (d i : EReal) = (r : EReal) ∧
      (∑ f, (∑ m, h m f * (((d i : EReal) * (S' i m + eye i m)) * (d m : EReal))) * (W f o : EReal)) = (r : EReal) := by
  by_cases hi : d i = 0
  · refine ⟨0, ?_, ?_⟩ <;> simp [hi]
  obtain ⟨⟨σ, hσ⟩, -⟩ := (hd i).resolve_left hi
  have hη : ∀ m, ∃ η : Fin D → ℝ, d m = 0 ∨ ∀ f, h m f = (η f : EReal) := fun m => by
    rcases hd m with h0 | ⟨-, η, hη⟩
    · exact ⟨fun _ => 0, Or.inl h0⟩
    · exact ⟨η, Or.inr hη⟩
  choose η hη using hη
  have ht : ∀ m, times h (fun f o => (W f o : EReal)) m o * (d m : EReal)
      = times (fun i f => (η i f : EReal)) (fun f o => (W f o : EReal)) m o * (d m : EReal) := fun m => by
    rcases hη m with h0 | h1
    · rw [h0, EReal.coe_zero, mul_zero, mul_zero]
    · unfold times; simp only [h1]
  have hm : ∀ m f, h m f * (((d i : EReal) * (S' i m + eye i m)) * (d m : EReal))
      = (η m f : EReal) * (((d i : EReal) * ((σ m : EReal) + eye i m)) * (d m : EReal)) := fun m f => by
    rcases hη m with h0 | h1
    · rw [h0, EReal.coe_zero, mul_zero, mul_zero, mul_zero, mul_zero]
    · rw [h1, (hσ m).2]
  obtain ⟨r, h1, h2⟩ := spread_coe (fun _ => σ) d W η i o
  refine ⟨r, ?_, ?_⟩
  · simp only [ht, (hσ _).1]; exact h1
  · simp only [hm]; exact h2

/-- The layers agree there, whatever the bias. -/
theorem layer_eq (S S' : Fin N → Fin N → EReal) (d : Fin N → ℝ) (W : Fin D → Fin D → ℝ) (b : Fin D → EReal)
    (h : Fin N → Fin D → EReal)
    (hd : ∀ i, d i = 0 ∨ (∃ σ : Fin N → ℝ, ∀ j, S i j = (σ j : EReal) ∧ S' i j = (σ j : EReal)) ∧
      ∃ η : Fin D → ℝ, ∀ f, h i f = (η f : EReal)) :
    layer S (fun i => (d i : EReal)) (times h (fun f o => (W f o : EReal))) b h
      = layer' S' (fun i => (d i : EReal)) (fun f o => (W f o : EReal)) b h := by
  funext i o
  obtain ⟨r, h1, h2⟩ := spread S S' d W h hd i o
  unfold layer layer'
  rw [h1, h2]

/-- With a finite bias, a layer's features are finite where the normalising factor is not zero. -/
theorem layer_real (S S' : Fin N → Fin N → EReal) (d : Fin N → ℝ) (W : Fin D → Fin D → ℝ) (b : Fin D → ℝ)
    (h : Fin N → Fin D → EReal)
    (hd : ∀ i, d i = 0 ∨ (∃ σ : Fin N → ℝ, ∀ j, S i j = (σ j : EReal) ∧ S' i j = (σ j : EReal)) ∧
      ∃ η : Fin D → ℝ, ∀ f, h i f = (η f : EReal)) (i : Fin N) (hi : d i ≠ 0) :
    ∃ η : Fin D → ℝ, ∀ f, layer' S' (fun i => (d i : EReal)) (fun f o => (W f o : EReal)) (fun o => (b o : EReal)) h i f
      = (η f : EReal) := by
  obtain ⟨-, η, hη⟩ := (hd i).resolve_left hi
  choose r hr using fun o => spread S S' d W h hd i o
  refine ⟨fun o => max (r o + b o) 0 + η o, fun o => ?_⟩
  unfold layer'
  rw [(hr o).2, hη, ← EReal.coe_add, coe_max_zero, ← EReal.coe_add]

/-- The two networks agree on finite weights and a finite first bias, over graphs each row of which is either infinite
    somewhere in both, or finite and the same in both, with a nonnegative diagonal and finite features at its node. -/
theorem gcn_eq (e : ℝ) (he : 0 ≤ e) (S S' : Fin N → Fin N → EReal) (x : Fin N → Fin D → EReal)
    (W0 W1 : Fin D → Fin D → ℝ) (b0 : Fin D → ℝ) (b1 : Fin D → EReal)
    (hS : ∀ i, ((∃ j, Inf (S i j)) ∧ ∃ j, Inf (S' i j)) ∨
      ((∃ σ : Fin N → ℝ, (∀ j, S i j = (σ j : EReal) ∧ S' i j = (σ j : EReal)) ∧ 0 ≤ σ i) ∧
        ∃ η : Fin D → ℝ, ∀ f, x i f = (η f : EReal))) :
    gcn (e : EReal) S x (fun f o => (W0 f o : EReal)) (fun f o => (W1 f o : EReal)) (fun o => (b0 o : EReal)) b1
      = gcn' (e : EReal) S' x (fun f o => (W0 f o : EReal)) (fun f o => (W1 f o : EReal)) (fun o => (b0 o : EReal)) b1 := by
  have hd : ∀ i, ∃ d : ℝ, invRoot (e : EReal) S i = d ∧ invSqrt (e : EReal) S' i = d ∧
      (d = 0 ∨ (∃ σ : Fin N → ℝ, ∀ j, S i j = (σ j : EReal) ∧ S' i j = (σ j : EReal)) ∧
        ∃ η : Fin D → ℝ, ∀ f, x i f = (η f : EReal)) := fun i => by
    rcases hS i with ⟨⟨j, hj⟩, k, hk⟩ | ⟨⟨σ, hσ, h0⟩, hη⟩
    · exact ⟨0, invRoot_inf e S i j hj, invSqrt_inf e S' i k hk, Or.inl rfl⟩
    · obtain ⟨d, h1, h2⟩ := invRoot_coe e he S S' i σ (fun j => (hσ j).1) (fun j => (hσ j).2) h0
      exact ⟨d, h1, h2, Or.inr ⟨⟨σ, hσ⟩, hη⟩⟩
  choose d h1 h2 hd using hd
  have h1 : invRoot (e : EReal) S = fun i => (d i : EReal) := funext h1
  have h2 : invSqrt (e : EReal) S' = fun i => (d i : EReal) := funext h2
  unfold gcn gcn'
  rw [h1, h2, layer_eq S S' d W0 _ x hd]
  refine layer_eq S S' d W1 b1 _ fun i => ?_
  by_cases hi : d i = 0
  · exact Or.inl hi
  · exact Or.inr ⟨((hd i).resolve_left hi).1, layer_real S S' d W0 b0 x hd i hi⟩

end Cert.Proof.Graph

end
-- ==== Proof.Read.lean ====
/- The kernel's vector functions of one snapshot, read at an index at the ideal floats. -/
module

public import proofs.«01_k».proof.Proof.Snap
public import proofs.«01_k».proof.Proof.Kth
public import proofs.«01_k».proof.Proof.Graph
public import Idealize.ShloMosaic.Lib.Pointwise

@[expose] public section

set_option maxRecDepth 16384

noncomputable section

namespace Cert.KernelIdeal.Snap

open Idealize.ShloMosaic Cert.KernelIdeal.Gen Cert.Proof

/-! ## The constants -/

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
theorem ofBits_five : Ideal.ofBits .f32 0x40A00000#32 = ((5 : ℝ) : EReal) := by
  simp [Ideal.ofBits, Ideal.ieee]
  rw [← EReal.coe_mul]; norm_num
/-- Epsilon is a nonnegative real. -/
theorem ofBits_eps : ∃ e : ℝ, 0 ≤ e ∧ Ideal.ofBits .f32 0x358637BD#32 = (e : EReal) := by
  simp [Ideal.ofBits, Ideal.ieee]
  exact ⟨_, by positivity, (EReal.coe_mul _ _).symm⟩

/-! ## The operations at an index -/

theorem sims_apply (x : FVec Ideal S1024x128 .f32) (i j : Fin 1024) :
    sims x (ix2 i j) = ∑ f : Fin 128, x (ix2 i f) * x (ix2 j f) := by
  pointwise [sims]

theorem times_apply (h : FVec Ideal S1024x128 .f32) (W : FVec Ideal S128x128 .f32) (i : Fin 1024) (o : Fin 128) :
    times h W (ix2 i o) = ∑ f : Fin 128, h (ix2 i f) * W (ix2 f o) := by
  pointwise [times]

theorem invRoot_apply (S : FVec Ideal S1024x1024 .f32) (i : Fin 1024) (k : Fin 1) :
    invRoot S (ix2 i k) = Ideal.rsqrt ((∑ j : Fin 1024, max (S (ix2 i j)) (-S (ix2 i j))) + (1 + Ideal.ofBits .f32 0x358637BD#32)) := by
  pointwise [invRoot]
  rfl

theorem rowMax_apply (S : FVec Ideal S1024x1024 .f32) (i : Fin 1024) (k : Fin 1) :
    rowMax S (ix2 i k) = Finset.univ.sup fun j : Fin 1024 => S (ix2 i j) := by
  pointwise [rowMax]
  rw [ofBits_neg_inf]
  rfl

theorem layer_apply (S : FVec Ideal S1024x1024 .f32) (d : FVec Ideal S1024x1 .f32) (z : FVec Ideal S1024x128 .f32)
    (b : FVec Ideal S1x128 .f32) (h : FVec Ideal S1024x128 .f32) (i : Fin 1024) (o : Fin 128) :
    layer S d z b h (ix2 i o) = max (((∑ m : Fin 1024, S (ix2 i m) * (z (ix2 m o) * d (ix2 m 0))) + z (ix2 i o) * d (ix2 i 0)) * d (ix2 i 0)
      + b (ix2 0 o)) 0 + h (ix2 i o) := by
  pointwise [layer, spread, scale, relu, rows]

theorem below_apply (S : FVec Ideal S1024x1024 .f32) (d : FVec Ideal S1024x1 .f32) (i : Fin 1024) (k : Fin 1) :
    below S d (ix2 i k) = Kth.below (fun j : Fin 1024 => S (ix2 i j)) (d (ix2 i 0)) := by
  unfold below
  rw [rowMax_apply]
  unfold Kth.below
  congr 1
  funext j
  pointwise []
  rw [ofBits_neg_inf]

theorem keep_apply (S : FVec Ideal S1024x1024 .f32) (d : FVec Ideal S1024x1 .f32) (i j : Fin 1024) :
    keep S d (ix2 i j) = if d (ix2 i 0) ≤ S (ix2 i j) then S (ix2 i j) else 0 := by
  pointwise [keep]

theorem reach_apply (S : FVec Ideal S1024x1024 .f32) (d : FVec Ideal S1024x1 .f32) (i j : Fin 1024) :
    reach S d (ix2 i j) = if d (ix2 i 0) ≤ S (ix2 i j) then 1 else 0 := by
  pointwise [reach]

theorem off5_apply (S : FVec Ideal S1024x1024 .f32) (i : Fin 1024) (k : Fin 1) :
    off5 S (ix2 i k) = BitVec.ofBool (decide ((∑ j : Fin 1024, S (ix2 i j)) ≠ ((5 : ℝ) : EReal))) := by
  pointwise [off5]
  rw [ofBits_five]

/-- Some row's flag is set exactly when the largest flag is positive. -/
theorem anyRow_pos (b : IVec S1024x1 1) : 0 < anyRow (F := Ideal) b ↔ ∃ i : Fin 1024, b (ix2 i 0) = 1#1 := by
  pointwise [anyRow]
  rw [ofBits_neg_inf]
  have e : ∀ f : Fin 1024 × Fin 1 → EReal, Finset.fold max ⊥ f Finset.univ = Finset.univ.sup f := fun _ => rfl
  rw [e, Finset.lt_sup_iff]
  constructor
  · rintro ⟨x, -, hx⟩
    refine ⟨x.1, ?_⟩
    by_contra hb
    rw [ValueIdx.eq_zero_of_ne_one hb] at hx
    exact lt_irrefl _ hx
  · rintro ⟨i, hi⟩
    refine ⟨(i, 0), Finset.mem_univ _, ?_⟩
    show 0 < Scalar.select (b (ix2 i 0)) 1 0
    rw [hi]
    exact zero_lt_one

/-- A sum of widened flags counts the set ones. -/
theorem fold_flags {ι : Type} (t : Finset ι) (p : ι → Prop) [DecidablePred p] :
    Finset.fold IntOp.addi (0#32) (fun x => BitVec.setWidth 32 (BitVec.ofBool (decide (p x)))) t
      = BitVec.ofNat 32 (t.filter p).card := by
  classical
  induction t using Finset.induction_on with
  | empty => rfl
  | insert a t ha ih =>
    rw [Finset.fold_insert ha, ih, Finset.filter_insert]
    by_cases h : p a
    · rw [if_pos h, Finset.card_insert_of_notMem (fun hm => ha (Finset.mem_filter.1 hm).1), decide_eq_true h, add_comm, BitVec.ofNat_add]
      rfl
    · rw [if_neg h, decide_eq_false h]
      show BitVec.setWidth 32 (BitVec.ofBool false) + _ = _
      simp

theorem occ_apply (S : FVec Ideal S1024x1024 .f32) (m : FVec Ideal S1024x1 .f32) (i : Fin 1024) (k : Fin 1) :
    occ S m (ix2 i k) = BitVec.ofNat 32 (Kth.equal (fun j : Fin 1024 => S (ix2 i j)) (m (ix2 i 0))) := by
  pointwise [occ]
  exact fold_flags _ _

theorem fuse_apply (hg hl : FVec Ideal S1024x128 .f32) (Wg0 : FVec Ideal S256x128 .f32) (bg0 : FVec Ideal S1x128 .f32)
    (Wg1 : FVec Ideal S128x128 .f32) (bg1 : FVec Ideal S1x128 .f32) (i : Fin 1024) (o : Fin 128) :
    fuse hg hl Wg0 bg0 Wg1 bg1 (ix2 i o) = (∑ k : Fin 128, max (((∑ f : Fin 128, hg (ix2 i f) * Wg0 (ix2 ⟨f.val, by omega⟩ k))
      + ∑ f : Fin 128, hl (ix2 i f) * Wg0 (ix2 ⟨128 + f.val, by omega⟩ k)) + bg0 (ix2 0 k)) 0 * Wg1 (ix2 k o)) + bg1 (ix2 0 o) := by
  pointwise [fuse, times, relu, rows]

theorem readout_apply (cw : FVec Ideal S1024x128 .f32) (Wn0 : FVec Ideal S1024x128 .f32) (bn0 : FVec Ideal S1x128 .f32)
    (Wn1 : FVec Ideal S1x128 .f32) (bn1 : FVec Ideal S1x1 .f32) (o : Fin 128) :
    readout cw Wn0 bn0 Wn1 bn1 (ix1 o) = (∑ k : Fin 128, max ((∑ n : Fin 1024, cw (ix2 n o) * Wn0 (ix2 n k)) + bn0 (ix2 0 k)) 0 * Wn1 (ix2 0 k))
      + bn1 (ix2 0 0) := by
  pointwise [readout, rows128]

end Cert.KernelIdeal.Snap

end
-- ==== Proof.Spec.lean ====
/- What one snapshot's result is, of its two graphs' features: the fusing layers at a node, and the node layers. -/
module

public import proofs.«01_k».proof.Proof.Graph
public import proofs.«01_k».proof.Proof.Kth

@[expose] public section

noncomputable section

namespace Cert.Proof.Graph

/-- Two graphs' features at a node, through the two fusing layers. -/
def fuse (hg hl : Fin 1024 → Fin 128 → EReal) (Wg0 : Fin 256 → Fin 128 → EReal) (bg0 : Fin 128 → EReal)
    (Wg1 : Fin 128 → Fin 128 → EReal) (bg1 : Fin 128 → EReal) (i : Fin 1024) (o : Fin 128) : EReal :=
  (∑ k : Fin 128, max (((∑ f : Fin 128, hg i f * Wg0 ⟨f.val, by omega⟩ k)
    + ∑ f : Fin 128, hl i f * Wg0 ⟨128 + f.val, by omega⟩ k) + bg0 k) 0 * Wg1 k o) + bg1 o

/-- The node layers of fused features. -/
def readout (cw : Fin 1024 → Fin 128 → EReal) (Wn0 : Fin 1024 → Fin 128 → EReal) (bn0 : Fin 128 → EReal)
    (Wn1 : Fin 128 → EReal) (bn1 : EReal) (o : Fin 128) : EReal :=
  (∑ k : Fin 128, max ((∑ n : Fin 1024, cw n o * Wn0 n k) + bn0 k) 0 * Wn1 k) + bn1

/-- The inner products of the nodes' features. -/
def sims (x : Fin 1024 → Fin 128 → EReal) (i j : Fin 1024) : EReal := ∑ f : Fin 128, x i f * x j f

/-- The similarities that reach their row's threshold, zero elsewhere. -/
def keep (S : Fin 1024 → Fin 1024 → EReal) (t : Fin 1024 → EReal) (i j : Fin 1024) : EReal :=
  if t i ≤ S i j then S i j else 0

/-- One snapshot's result: two graphs' features by `g`, fused and read out. -/
def result (g : (Fin 1024 → Fin 1024 → EReal) → Fin 1024 → Fin 128 → EReal)
    (x : Fin 1024 → Fin 128 → EReal) (t : Fin 1024 → EReal) (Wg0 : Fin 256 → Fin 128 → EReal) (bg0 : Fin 128 → EReal)
    (Wg1 : Fin 128 → Fin 128 → EReal) (bg1 : Fin 128 → EReal) (Wn0 : Fin 1024 → Fin 128 → EReal) (bn0 : Fin 128 → EReal)
    (Wn1 : Fin 128 → EReal) (bn1 : EReal) : Fin 128 → EReal :=
  readout (fuse (g (sims x)) (g (keep (sims x) t)) Wg0 bg0 Wg1 bg1) Wn0 bn0 Wn1 bn1

/-- No square is negative. -/
theorem sq_nonneg' (a : EReal) : 0 ≤ a * a := by
  induction a using EReal.rec with
  | bot => rw [EReal.bot_mul_bot]; exact le_top
  | coe r => rw [← EReal.coe_mul, ← EReal.coe_zero, EReal.coe_le_coe_iff]; exact mul_self_nonneg r
  | top => rw [EReal.top_mul_top]; exact le_top

/-- A node's similarity with itself is not negative. -/
theorem sims_self (x : Fin 1024 → Fin 128 → EReal) (i : Fin 1024) : 0 ≤ sims x i i :=
  Finset.sum_nonneg fun f _ => sq_nonneg' (x i f)

/-- A node whose similarity with itself is not infinite has real features. -/
theorem real_of_self (x : Fin 1024 → Fin 128 → EReal) (i : Fin 1024) (h : sims x i i ≠ ⊤) :
    ∃ η : Fin 128 → ℝ, ∀ f, x i f = (η f : EReal) := by
  have hf : ∀ f, ∃ r : ℝ, x i f = (r : EReal) := fun f => real_of_not_inf fun hf => h <| top_le_iff.1 <| by
    have e : x i f * x i f = ⊤ := by
      rcases hf with e | e <;> rw [e]
      · exact EReal.top_mul_top
      · exact EReal.bot_mul_bot
    rw [← e]
    exact Finset.single_le_sum (f := fun f => x i f * x i f) (fun f _ => sq_nonneg' (x i f)) (Finset.mem_univ f)
  choose η hη using hf
  exact ⟨η, hη⟩

/-- A row that is one in both graphs is infinite somewhere in both, or finite. -/
theorem row_cases (S S' : Fin 1024 → Fin 1024 → EReal) (i : Fin 1024) (h : S i = S' i) (h0 : 0 ≤ S i i) :
    ((∃ j, Inf (S i j)) ∧ ∃ j, Inf (S' i j)) ∨
      ∃ σ : Fin 1024 → ℝ, (∀ j, S i j = (σ j : EReal) ∧ S' i j = (σ j : EReal)) ∧ 0 ≤ σ i := by
  by_cases hj : ∃ j, Inf (S i j)
  · exact Or.inl ⟨hj, by rw [← h]; exact hj⟩
  · rw [not_exists] at hj
    choose σ hσ using fun j => real_of_not_inf (hj j)
    refine Or.inr ⟨σ, fun j => ⟨hσ j, by rw [← h]; exact hσ j⟩, ?_⟩
    rw [hσ, ← EReal.coe_zero, EReal.coe_le_coe_iff] at h0
    exact h0

/-- Over finite weights and first bias the two kinds of layers give one result, whatever thresholds are the rows' fifth
    largest entries; the first kind's thresholds need be that only at rows without `⊤`. -/
theorem result_eq (e : ℝ) (he : 0 ≤ e) (x : Fin 1024 → Fin 128 → EReal) (W0 W1 : Fin 128 → Fin 128 → ℝ) (b0 : Fin 128 → ℝ)
    (b1 : Fin 128 → EReal) (t t' : Fin 1024 → EReal)
    (ht : ∀ i, (∀ j, sims x i j < ⊤) → Kth.IsKth (sims x i) 5 (t i)) (ht' : ∀ i, Kth.IsKth (sims x i) 5 (t' i))
    (Wg0 : Fin 256 → Fin 128 → EReal) (bg0 : Fin 128 → EReal)
    (Wg1 : Fin 128 → Fin 128 → EReal) (bg1 : Fin 128 → EReal) (Wn0 : Fin 1024 → Fin 128 → EReal) (bn0 : Fin 128 → EReal)
    (Wn1 : Fin 128 → EReal) (bn1 : EReal) :
    result (fun S => gcn e S x (fun f o => (W0 f o : EReal)) (fun f o => (W1 f o : EReal)) (fun o => (b0 o : EReal)) b1)
        x t Wg0 bg0 Wg1 bg1 Wn0 bn0 Wn1 bn1
      = result (fun S => gcn' e S x (fun f o => (W0 f o : EReal)) (fun f o => (W1 f o : EReal)) (fun o => (b0 o : EReal)) b1)
        x t' Wg0 bg0 Wg1 bg1 Wn0 bn0 Wn1 bn1 := by
  have hg := gcn_eq e he (sims x) (sims x) x W0 W1 b0 b1 fun i => by
    rcases row_cases (sims x) (sims x) i rfl (sims_self x i) with h | ⟨σ, h⟩
    · exact Or.inl h
    · exact Or.inr ⟨⟨σ, h⟩, real_of_self x i (by rw [(h.1 i).1]; exact EReal.coe_ne_top _)⟩
  have hl := gcn_eq e he (keep (sims x) t) (keep (sims x) t') x W0 W1 b0 b1 fun i => by
    by_cases hj : ∃ j, sims x i j = ⊤
    · obtain ⟨j, hj⟩ := hj
      have hk : ∀ u : Fin 1024 → EReal, Inf (keep (sims x) u i j) := fun u => Or.inl (by
        unfold keep; rw [hj, if_pos le_top])
      exact Or.inl ⟨⟨j, hk t⟩, j, hk t'⟩
    · rw [not_exists] at hj
      have hi : t i = t' i := Kth.IsKth.unique (ht i fun j => lt_top_iff_ne_top.2 (hj j)) (ht' i)
      have hrow : keep (sims x) t i = keep (sims x) t' i := by
        funext j; unfold keep; rw [hi]
      have h0 : 0 ≤ keep (sims x) t i i := by
        unfold keep
        split
        · exact sims_self x i
        · exact le_rfl
      rcases row_cases _ _ i hrow h0 with h | h
      · exact Or.inl h
      · exact Or.inr ⟨h, real_of_self x i (hj i)⟩
  unfold result
  dsimp only
  rw [hg, hl]

end Cert.Proof.Graph

end
-- ==== Proof.Threshold.lean ====
/- The threshold the kernel picks for each row of the similarities is the row's fifth largest entry, in either branch. -/
module

public import proofs.«01_k».proof.Proof.Read
public import proofs.«01_k».proof.Proof.Spec

@[expose] public section

set_option maxRecDepth 16384

noncomputable section

namespace Cert.KernelIdeal.Snap

open Idealize.ShloMosaic Cert.KernelIdeal.Gen Cert.Proof

/-- A matrix as a function of its row and column. -/
abbrev mat {n k : Nat} (v : FVec Ideal ⟨2, ![n, k]⟩ .f32) (i : Fin n) (j : Fin k) : EReal := v (ix2 i j)

/-- A float above zero, as the bit the branch reads. -/
theorem flag_iff (a : EReal) :
    Scalar.cmpi .ne (Scalar.extui (Scalar.cmpf (F := Ideal) (φ := .f32) .ogt a (Ideal.ofBits .f32 0x00000000#32)) : BitVec 32) 0#32 = 1#1
      ↔ 0 < a := by
  have e : Scalar.cmpf (F := Ideal) (φ := .f32) .ogt a (Ideal.ofBits .f32 0x00000000#32) = BitVec.ofBool (decide (0 < a)) := by
    rw [Ideal.ofBits_zero_f32]; rfl
  rw [e]
  by_cases h : 0 < a
  · rw [decide_eq_true h]; simp only [h, iff_true]; decide
  · rw [decide_eq_false h]; simp only [h, iff_false]; decide

/-- A decided proposition, as a bit. -/
theorem ofBool_iff (p : Prop) [Decidable p] : BitVec.ofBool (decide p) = 1#1 ↔ p := by
  by_cases h : p
  · rw [decide_eq_true h]; simp only [h, iff_true]; decide
  · rw [decide_eq_false h]; simp only [h, iff_false]; decide

/-- The ones of a row add up to the number of entries that reach the bound. -/
theorem sum_reach (S : FVec Ideal S1024x1024 .f32) (d : FVec Ideal S1024x1 .f32) (i : Fin 1024) :
    (∑ j : Fin 1024, reach S d (ix2 i j)) = ((Kth.reached (mat S i) (d (ix2 i 0)) : ℝ) : EReal) := by
  simp only [reach_apply]
  generalize d (ix2 i 0) = t
  have : ∀ j : Fin 1024, (if t ≤ S (ix2 i j) then (1 : EReal) else 0)
      = ((if t ≤ S (ix2 i j) then (1 : ℝ) else 0 : ℝ) : EReal) := fun j => by split <;> simp
  simp only [this]
  rw [← Graph.coe_sum, Finset.sum_boole]
  rfl

/-- The branch is taken exactly when some row's candidate is not reached by exactly five entries. -/
theorem tied_iff (S : FVec Ideal S1024x1024 .f32) :
    tied S = 1#1 ↔ ∃ i : Fin 1024, Kth.reached (mat S i) (fifth S (ix2 i 0)) ≠ 5 := by
  refine (flag_iff (anyRow (F := Ideal) (off5 (reach S (fifth S))))).trans ?_
  rw [anyRow_pos]
  generalize fifth S = d
  refine exists_congr fun i => ?_
  rw [off5_apply, ofBool_iff, sum_reach, ne_eq, EReal.coe_eq_coe_iff]
  norm_cast

/-- The count still wanted after a round, at an index. -/
theorem rest_apply (rest c : IVec S1024x1 32) (done : IVec S1024x1 1) (i : Fin 1024) :
    subi rest (select done (broadcast S1024x1 0#32) c) (ix2 i 0)
      = IntOp.subi (rest (ix2 i 0)) (Scalar.select (done (ix2 i 0)) 0#32 (c (ix2 i 0))) := by
  rfl

/-- Whether a row is newly settled, at an index. -/
theorem newly_apply (rest c : IVec S1024x1 32) (done : IVec S1024x1 1) (i : Fin 1024) :
    newly done c rest (ix2 i 0)
      = IntOp.andi (IntOp.xori (done (ix2 i 0)) 1#1) (IntOp.cmpi .sge (c (ix2 i 0)) (rest (ix2 i 0))) := by
  rfl

/-- A round keeps the invariant. -/
theorem inv_next (S : FVec Ideal S1024x1024 .f32) (r : Round Ideal) (i : Fin 1024) (n : ℕ)
    (h : Kth.Inv (mat S i) n (r.cur (ix2 i 0)) (r.rest (ix2 i 0)) (r.done (ix2 i 0)) (r.thresh (ix2 i 0))) :
    Kth.Inv (mat S i) (n + 1) ((next S r).cur (ix2 i 0)) ((next S r).rest (ix2 i 0)) ((next S r).done (ix2 i 0))
      ((next S r).thresh (ix2 i 0)) := by
  have hb : below S r.cur (ix2 i 0) = Kth.below (mat S i) (r.cur (ix2 i 0)) := below_apply S r.cur i 0
  have hc : occ S (below S r.cur) (ix2 i 0) = BitVec.ofNat 32 (Kth.equal (mat S i) (Kth.below (mat S i) (r.cur (ix2 i 0)))) := by
    rw [← hb]; exact occ_apply S (below S r.cur) i 0
  have := h.next (by norm_num) (by norm_num) hc
  rw [← hb, ← newly_apply] at this
  unfold next
  dsimp only
  rw [rest_apply]
  exact this

/-- The rounds find the fifth largest entry of a row none of whose entries is `⊤`. -/
theorem exact5_isKth (S : FVec Ideal S1024x1024 .f32) (i : Fin 1024) (hS : ∀ j, S (ix2 i j) < ⊤) :
    Kth.IsKth (mat S i) 5 (exact5 S (ix2 i 0)) := by
  have h0 : Kth.Inv (mat S i) 0 ((start (F := Ideal)).cur (ix2 i 0)) ((start (F := Ideal)).rest (ix2 i 0))
      ((start (F := Ideal)).done (ix2 i 0)) ((start (F := Ideal)).thresh (ix2 i 0)) := by
    have := Kth.Inv.start (s := mat S i) hS ((start (F := Ideal)).thresh (ix2 i 0))
    rw [← ofBits_pos_inf] at this
    exact this
  exact (inv_next S _ i 4 (inv_next S _ i 3 (inv_next S _ i 2 (inv_next S _ i 1 (inv_next S _ i 0 h0))))).isKth

/-- The threshold is the fifth largest entry, in either branch. -/
theorem threshold_isKth (S : FVec Ideal S1024x1024 .f32) (i : Fin 1024) (hS : ∀ j, S (ix2 i j) < ⊤) :
    Kth.IsKth (mat S i) 5 (threshold S (ix2 i 0)) := by
  unfold threshold
  by_cases h : tied S = 1#1
  · rw [if_pos h]; exact exact5_isKth S i hS
  · rw [if_neg h]
    rw [tied_iff] at h
    push Not at h
    have hi := h i
    unfold fifth at hi ⊢
    rw [below_apply] at hi ⊢
    exact Kth.isKth_below (by norm_num) hi

/-- The two graph layers at an index. -/
theorem gcn_apply (S : FVec Ideal S1024x1024 .f32) (x : FVec Ideal S1024x128 .f32) (W0 W1 : FVec Ideal S128x128 .f32)
    (b0 b1 : FVec Ideal S1x128 .f32) (i : Fin 1024) (o : Fin 128) :
    gcn S x W0 W1 b0 b1 (ix2 i o)
      = Graph.gcn (Ideal.ofBits .f32 0x358637BD#32) (mat S) (mat x) (mat W0) (mat W1) (mat b0 0) (mat b1 0) i o := by
  unfold gcn Graph.gcn
  have hd : ∀ m : Fin 1024, invRoot S (ix2 m 0) = Graph.invRoot (Ideal.ofBits .f32 0x358637BD#32) (mat S) m := fun m => by
    rw [invRoot_apply]; rfl
  have ht : ∀ (h : FVec Ideal S1024x128 .f32) (W : FVec Ideal S128x128 .f32) (i : Fin 1024) (o : Fin 128),
      times h W (ix2 i o) = Graph.times (mat h) (mat W) i o := times_apply
  have hl : ∀ (h : FVec Ideal S1024x128 .f32) (W : FVec Ideal S128x128 .f32) (b : FVec Ideal S1x128 .f32),
      mat (layer S (invRoot S) (times h W) b h)
        = Graph.layer (mat S) (Graph.invRoot (Ideal.ofBits .f32 0x358637BD#32) (mat S)) (Graph.times (mat h) (mat W)) (mat b 0) (mat h) := by
    intro h W b
    funext i o
    show layer S (invRoot S) (times h W) b h (ix2 i o) = _
    rw [layer_apply]
    simp only [hd, ht]
    rfl
  rw [← hl x W0 b0]
  exact congrFun (congrFun (hl _ W1 b1) i) o

/-- The fusing layers, as a function of the node and the feature. -/
theorem fuse_mat (hg hl : FVec Ideal S1024x128 .f32) (Wg0 : FVec Ideal S256x128 .f32) (bg0 : FVec Ideal S1x128 .f32)
    (Wg1 : FVec Ideal S128x128 .f32) (bg1 : FVec Ideal S1x128 .f32) :
    mat (fuse hg hl Wg0 bg0 Wg1 bg1) = Graph.fuse (mat hg) (mat hl) (mat Wg0) (mat bg0 0) (mat Wg1) (mat bg1 0) :=
  funext fun i => funext fun o => fuse_apply hg hl Wg0 bg0 Wg1 bg1 i o

/-- The node layers, as a function of the feature. -/
theorem readout_mat (cw : FVec Ideal S1024x128 .f32) (Wn0 : FVec Ideal S1024x128 .f32) (bn0 : FVec Ideal S1x128 .f32)
    (Wn1 : FVec Ideal S1x128 .f32) (bn1 : FVec Ideal S1x1 .f32) (o : Fin 128) :
    readout cw Wn0 bn0 Wn1 bn1 (ix1 o) = Graph.readout (mat cw) (mat Wn0) (mat bn0 0) (mat Wn1 0) (bn1 (ix2 0 0)) o :=
  readout_apply cw Wn0 bn0 Wn1 bn1 o

/-- The two layers, as a function of the node and the feature. -/
theorem gcn_mat (S : FVec Ideal S1024x1024 .f32) (x : FVec Ideal S1024x128 .f32) (W0 W1 : FVec Ideal S128x128 .f32)
    (b0 b1 : FVec Ideal S1x128 .f32) :
    mat (gcn S x W0 W1 b0 b1)
      = Graph.gcn (Ideal.ofBits .f32 0x358637BD#32) (mat S) (mat x) (mat W0) (mat W1) (mat b0 0) (mat b1 0) :=
  funext fun i => funext fun o => gcn_apply S x W0 W1 b0 b1 i o

/-- The similarities, as a function of two nodes. -/
theorem sims_mat (x : FVec Ideal S1024x128 .f32) : mat (sims x) = Graph.sims (mat x) :=
  funext fun i => funext fun j => sims_apply x i j

/-- The kept similarities, as a function of two nodes. -/
theorem keep_mat (S : FVec Ideal S1024x1024 .f32) (d : FVec Ideal S1024x1 .f32) :
    mat (keep S d) = Graph.keep (mat S) (fun i => d (ix2 i 0)) :=
  funext fun i => funext fun j => keep_apply S d i j

/-- One snapshot's result: the formula over the first kind of layers, with the kernel's thresholds. -/
theorem snap_apply (x : FVec Ideal S1024x128 .f32) (W0 : FVec Ideal S128x128 .f32) (b0 : FVec Ideal S1x128 .f32)
    (W1 : FVec Ideal S128x128 .f32) (b1 : FVec Ideal S1x128 .f32) (Wg0 : FVec Ideal S256x128 .f32) (bg0 : FVec Ideal S1x128 .f32)
    (Wg1 : FVec Ideal S128x128 .f32) (bg1 : FVec Ideal S1x128 .f32) (Wn0 : FVec Ideal S1024x128 .f32) (bn0 : FVec Ideal S1x128 .f32)
    (Wn1 : FVec Ideal S1x128 .f32) (bn1 : FVec Ideal S1x1 .f32) (o : Fin 128) :
    snap x W0 b0 W1 b1 Wg0 bg0 Wg1 bg1 Wn0 bn0 Wn1 bn1 (ix1 o)
      = Graph.result (fun S => Graph.gcn (Ideal.ofBits .f32 0x358637BD#32) S (mat x) (mat W0) (mat W1) (mat b0 0) (mat b1 0))
        (mat x) (fun i => threshold (sims x) (ix2 i 0)) (mat Wg0) (mat bg0 0) (mat Wg1) (mat bg1 0) (mat Wn0) (mat bn0 0)
        (mat Wn1 0) (bn1 (ix2 0 0)) o := by
  unfold snap
  rw [readout_mat, fuse_mat, gcn_mat, gcn_mat, keep_mat, sims_mat]
  rfl

end Cert.KernelIdeal.Snap

end
-- ==== Proof.Reference.lean ====
/- The reference's result at an index, as one snapshot's formula. -/
module

public import proofs.«01_k».proof.Proof.Gen.ReferenceIdeal.Read
public import proofs.«01_k».proof.Proof.Spec
public import proofs.«01_k».proof.Proof.Kth
public import Idealize.ShloMosaic.Lib.Pointwise

@[expose] public section

set_option maxRecDepth 16384

noncomputable section

namespace Cert.ReferenceIdeal.Read

open Idealize.ShloMosaic Cert.ReferenceIdeal.Gen Cert.Proof

/-- Snapshot `s` of the flattened features. -/
abbrev snapshot (x0 : FVec Ideal S2x8x1024x128 .f32) (s : Fin 16) (i : Fin 1024) (f : Fin 128) : EReal :=
  val_main_v0 (F := Ideal) x0 (ix3 s i f)

/-- The similarities. -/
theorem v1_at (x0 : FVec Ideal S2x8x1024x128 .f32) (s : Fin 16) (i j : Fin 1024) :
    val_main_v1 (F := Ideal) x0 (ix3 s i j) = Graph.sims (snapshot x0 s) i j := by
  unfold val_main_v1 Graph.sims snapshot
  generalize val_main_v0 (F := Ideal) x0 = y
  pointwise []

/-- The one bit of an equation, as a float. -/
theorem eye_bit (i j : Fin 1024) :
    (FloatOps.uitofp (F := Ideal) .f32 (IntOp.cmpi .eq (IntOp.addi (BitVec.ofNat 32 i.val) 0#32) (BitVec.ofNat 32 j.val)) : EReal)
      = Graph.eye i j := by
  have e : IntOp.cmpi .eq (IntOp.addi (BitVec.ofNat 32 i.val) 0#32) (BitVec.ofNat 32 j.val) = BitVec.ofBool (decide (i = j)) := by
    have : IntOp.cmpi .eq (IntOp.addi (BitVec.ofNat 32 i.val) 0#32) (BitVec.ofNat 32 j.val)
        = BitVec.ofBool (BitVec.ofNat 32 i.val + 0#32 == BitVec.ofNat 32 j.val) := rfl
    rw [this, BitVec.add_zero]
    congr 1
    rw [Bool.eq_iff_iff, beq_iff_eq, decide_eq_true_iff, Fin.ext_iff]
    have h1 := i.isLt
    have h2 := j.isLt
    constructor
    · intro h
      have := congrArg BitVec.toNat h
      rw [BitVec.toNat_ofNat, BitVec.toNat_ofNat] at this
      omega
    · intro h; rw [h]
  rw [e]
  unfold Graph.eye
  by_cases h : i = j
  · rw [if_pos h, decide_eq_true h]
    show ((((1#1 : BitVec 1).toNat : ℝ)) : EReal) = 1
    simp
  · rw [if_neg h, decide_eq_false h]
    show ((((0#1 : BitVec 1).toNat : ℝ)) : EReal) = 0
    simp

/-- The identity. -/
theorem v14_at (s : Fin 16) (i j : Fin 1024) : val_main_v14 (F := Ideal) (ix3 s i j) = Graph.eye i j := by
  rw [← eye_bit]
  pointwise [val_main_v14, val_main_v13, val_main_v12, val_main_v11, val_main_v10, val_main_v9, val_main_c, val_main_v8, val_main_v7]

/-- The identity, of the second graph. -/
theorem v36_at (s : Fin 16) (i j : Fin 1024) : val_main_v36 (F := Ideal) (ix3 s i j) = Graph.eye i j := by
  rw [← eye_bit]
  pointwise [val_main_v36, val_main_v35, val_main_v34, val_main_v33, val_main_v32, val_main_v31, val_main_c_3, val_main_v30, val_main_v29]

/-- The matrix normalised by its roots on both sides. -/
abbrev norm (S : Fin 1024 → Fin 1024 → EReal) (i j : Fin 1024) : EReal :=
  (Graph.invSqrt (Ideal.ofBits .f32 0x358637BD#32) S i * (S i j + Graph.eye i j)) * Graph.invSqrt (Ideal.ofBits .f32 0x358637BD#32) S j

/-- The first graph's normalised matrix. -/
theorem v28_at (x0 : FVec Ideal S2x8x1024x128 .f32) (s : Fin 16) (i j : Fin 1024) :
    val_main_v28 (F := Ideal) x0 (ix3 s i j) = norm (Graph.sims (snapshot x0 s)) i j := by
  have hy : ∀ i j : Fin 1024, val_main_v15 (F := Ideal) x0 (ix3 s i j) = Graph.sims (snapshot x0 s) i j + Graph.eye i j := by
    intro i j; rw [val_main_v15_apply, v1_at, v14_at]; rfl
  unfold norm Graph.invSqrt
  simp only [← hy]
  unfold val_main_v28 val_main_v27 val_main_v26 val_main_v25 val_main_v24 val_main_v23 val_main_v22 val_main_v20 val_main_v19 val_main_v17 val_main_v16
  generalize val_main_v15 (F := Ideal) x0 = y
  pointwise [val_main_v21, val_main_v18, val_main_cst_0, val_main_cst_1, val_main_cst_2]
  rfl

/-- The second graph's normalised matrix. -/
theorem v50_at (x0 : FVec Ideal S2x8x1024x128 .f32) (s : Fin 16) (L : Fin 1024 → Fin 1024 → EReal)
    (hL : ∀ i j, val_main_v6 (F := Ideal) x0 (ix3 s i j) = L i j) (i j : Fin 1024) :
    val_main_v50 (F := Ideal) x0 (ix3 s i j) = norm L i j := by
  have hy : ∀ i j : Fin 1024, val_main_v37 (F := Ideal) x0 (ix3 s i j) = L i j + Graph.eye i j := by
    intro i j; rw [val_main_v37_apply, hL, v36_at]; rfl
  unfold norm Graph.invSqrt
  simp only [← hy]
  unfold val_main_v50 val_main_v49 val_main_v48 val_main_v47 val_main_v46 val_main_v45 val_main_v44 val_main_v42 val_main_v41 val_main_v39 val_main_v38
  generalize val_main_v37 (F := Ideal) x0 = y
  pointwise [val_main_v43, val_main_v40, val_main_cst_4, val_main_cst_5, val_main_cst_6]
  rfl

/-- A square of weights as a function of its row and column, and a vector of its position. -/
abbrev sq {n k : Nat} (W : FVec Ideal ⟨2, ![n, k]⟩ .f32) (f : Fin n) (o : Fin k) : EReal := W (ix2 f o)

/-- A vector as a function of its position. -/
abbrev vec {n : Nat} (b : FVec Ideal ⟨1, ![n]⟩ .f32) (o : Fin n) : EReal := b (ix1 o)

/-- The first layer over the first graph. -/
theorem v57_at (x0 : FVec Ideal S2x8x1024x128 .f32) (x1 : FVec Ideal S128x128 .f32) (x2 : FVec Ideal S128 .f32)
    (s : Fin 16) (i : Fin 1024) (o : Fin 128) :
    val_main_v57 (F := Ideal) x0 x1 x2 (ix3 s i o)
      = max ((∑ f, (∑ m, snapshot x0 s m f * norm (Graph.sims (snapshot x0 s)) i m) * sq x1 f o) + vec x2 o) 0 + snapshot x0 s i o := by
  unfold val_main_v57 val_main_v56 val_main_v55 val_main_v54 val_main_v53 val_main_v52 val_main_v51 snapshot
  simp only [← v28_at]
  generalize val_main_v0 (F := Ideal) x0 = y
  generalize val_main_v28 (F := Ideal) x0 = A
  pointwise [val_main_call1_v0, val_main_call1_cst]

/-- The second layer over the first graph. -/
theorem v64_at (x0 : FVec Ideal S2x8x1024x128 .f32) (x1 : FVec Ideal S128x128 .f32) (x2 : FVec Ideal S128 .f32)
    (x3 : FVec Ideal S128x128 .f32) (x4 : FVec Ideal S128 .f32) (s : Fin 16) (i : Fin 1024) (o : Fin 128) :
    val_main_v64 (F := Ideal) x0 x1 x2 x3 x4 (ix3 s i o)
      = Graph.gcn' (Ideal.ofBits .f32 0x358637BD#32) (Graph.sims (snapshot x0 s)) (snapshot x0 s) (sq x1) (sq x3) (vec x2) (vec x4) i o := by
  have h : ∀ i o, Graph.layer' (Graph.sims (snapshot x0 s))
      (Graph.invSqrt (Ideal.ofBits .f32 0x358637BD#32) (Graph.sims (snapshot x0 s))) (sq x1) (vec x2) (snapshot x0 s) i o
      = val_main_v57 (F := Ideal) x0 x1 x2 (ix3 s i o) := fun i o => (v57_at x0 x1 x2 s i o).symm
  unfold Graph.gcn'
  rw [show Graph.layer' (Graph.sims (snapshot x0 s))
      (Graph.invSqrt (Ideal.ofBits .f32 0x358637BD#32) (Graph.sims (snapshot x0 s))) (sq x1) (vec x2) (snapshot x0 s)
      = fun i o => val_main_v57 (F := Ideal) x0 x1 x2 (ix3 s i o) from funext fun i => funext fun o => h i o]
  show _ = max ((∑ f, (∑ m, val_main_v57 (F := Ideal) x0 x1 x2 (ix3 s m f) * norm (Graph.sims (snapshot x0 s)) i m) * sq x3 f o) + vec x4 o) 0
    + val_main_v57 (F := Ideal) x0 x1 x2 (ix3 s i o)
  unfold val_main_v64 val_main_v63 val_main_v62 val_main_v61 val_main_v60 val_main_v59 val_main_v58
  simp only [← v28_at]
  generalize val_main_v57 (F := Ideal) x0 x1 x2 = y
  generalize val_main_v28 (F := Ideal) x0 = A
  pointwise [val_main_call2_v0, val_main_call2_cst]

/-- The first layer over the second graph. -/
theorem v72_at (x0 : FVec Ideal S2x8x1024x128 .f32) (x1 : FVec Ideal S128x128 .f32) (x2 : FVec Ideal S128 .f32)
    (s : Fin 16) (L : Fin 1024 → Fin 1024 → EReal) (hL : ∀ i j, val_main_v6 (F := Ideal) x0 (ix3 s i j) = L i j)
    (i : Fin 1024) (o : Fin 128) :
    val_main_v72 (F := Ideal) x0 x1 x2 (ix3 s i o)
      = max ((∑ f, (∑ m, snapshot x0 s m f * norm L i m) * sq x1 f o) + vec x2 o) 0 + snapshot x0 s i o := by
  unfold val_main_v72 val_main_v71 val_main_v70 val_main_v69 val_main_v68 val_main_v67 val_main_v66 snapshot
  simp only [← v50_at x0 s L hL]
  generalize val_main_v0 (F := Ideal) x0 = y
  generalize val_main_v50 (F := Ideal) x0 = A
  pointwise [val_main_call3_v0, val_main_call3_cst]

/-- The second layer over the second graph. -/
theorem v79_at (x0 : FVec Ideal S2x8x1024x128 .f32) (x1 : FVec Ideal S128x128 .f32) (x2 : FVec Ideal S128 .f32)
    (x3 : FVec Ideal S128x128 .f32) (x4 : FVec Ideal S128 .f32)
    (s : Fin 16) (L : Fin 1024 → Fin 1024 → EReal) (hL : ∀ i j, val_main_v6 (F := Ideal) x0 (ix3 s i j) = L i j)
    (i : Fin 1024) (o : Fin 128) :
    val_main_v79 (F := Ideal) x0 x1 x2 x3 x4 (ix3 s i o)
      = Graph.gcn' (Ideal.ofBits .f32 0x358637BD#32) L (snapshot x0 s) (sq x1) (sq x3) (vec x2) (vec x4) i o := by
  have h : ∀ i o, Graph.layer' L (Graph.invSqrt (Ideal.ofBits .f32 0x358637BD#32) L) (sq x1) (vec x2) (snapshot x0 s) i o
      = val_main_v72 (F := Ideal) x0 x1 x2 (ix3 s i o) := fun i o => (v72_at x0 x1 x2 s L hL i o).symm
  unfold Graph.gcn'
  rw [show Graph.layer' L (Graph.invSqrt (Ideal.ofBits .f32 0x358637BD#32) L) (sq x1) (vec x2) (snapshot x0 s)
      = fun i o => val_main_v72 (F := Ideal) x0 x1 x2 (ix3 s i o) from funext fun i => funext fun o => h i o]
  show _ = max ((∑ f, (∑ m, val_main_v72 (F := Ideal) x0 x1 x2 (ix3 s m f) * norm L i m) * sq x3 f o) + vec x4 o) 0
    + val_main_v72 (F := Ideal) x0 x1 x2 (ix3 s i o)
  unfold val_main_v79 val_main_v78 val_main_v77 val_main_v76 val_main_v75 val_main_v74 val_main_v73
  simp only [← v50_at x0 s L hL]
  generalize val_main_v72 (F := Ideal) x0 x1 x2 = y
  generalize val_main_v50 (F := Ideal) x0 = A
  pointwise [val_main_call4_v0, val_main_call4_cst]

/-- The row of the flattened features that a position of the first two axes names. -/
abbrev flat (b : Fin 2) (l : Fin 8) : Fin 16 := ⟨b.val * 8 + l.val, by omega⟩

/-- The fusing layers. -/
theorem v90_at (x0 : FVec Ideal S2x8x1024x128 .f32) (x1 : FVec Ideal S128x128 .f32) (x2 : FVec Ideal S128 .f32)
    (x3 : FVec Ideal S128x128 .f32) (x4 : FVec Ideal S128 .f32) (x5 : FVec Ideal S256x128 .f32) (x6 : FVec Ideal S128 .f32)
    (x7 : FVec Ideal S128x128 .f32) (x8 : FVec Ideal S128 .f32) (b : Fin 2) (l : Fin 8) (i : Fin 1024) (o : Fin 128) :
    val_main_v90 (F := Ideal) x0 x1 x2 x3 x4 x5 x6 x7 x8 (ix4 b l i o)
      = Graph.fuse (fun i f => val_main_v64 (F := Ideal) x0 x1 x2 x3 x4 (ix3 (flat b l) i f))
        (fun i f => val_main_v79 (F := Ideal) x0 x1 x2 x3 x4 (ix3 (flat b l) i f)) (sq x5) (vec x6) (sq x7) (vec x8) i o := by
  unfold val_main_v90 val_main_v89 val_main_v88 val_main_v87 val_main_v86 val_main_v85 val_main_v84 val_main_v83 val_main_v82 val_main_v81
    val_main_v80 val_main_v65 Graph.fuse
  generalize val_main_v64 (F := Ideal) x0 x1 x2 x3 x4 = y
  generalize val_main_v79 (F := Ideal) x0 x1 x2 x3 x4 = z
  pointwise [val_main_call5_v0, val_main_call5_cst]

/-- The node layers. -/
theorem v101_at (x0 : FVec Ideal S2x8x1024x128 .f32) (x1 : FVec Ideal S128x128 .f32) (x2 : FVec Ideal S128 .f32)
    (x3 : FVec Ideal S128x128 .f32) (x4 : FVec Ideal S128 .f32) (x5 : FVec Ideal S256x128 .f32) (x6 : FVec Ideal S128 .f32)
    (x7 : FVec Ideal S128x128 .f32) (x8 : FVec Ideal S128 .f32) (x9 : FVec Ideal S1024x128 .f32) (x10 : FVec Ideal S128 .f32)
    (x11 : FVec Ideal S128x1 .f32) (x12 : FVec Ideal S1 .f32) (b : Fin 2) (l : Fin 8) (o : Fin 128) :
    val_main_v101 (F := Ideal) x0 x1 x2 x3 x4 x5 x6 x7 x8 x9 x10 x11 x12 (ix3 b l o)
      = Graph.readout (fun i o => val_main_v90 (F := Ideal) x0 x1 x2 x3 x4 x5 x6 x7 x8 (ix4 b l i o)) (sq x9) (vec x10)
        (fun k => x11 (ix2 k 0)) (x12 (ix1 0)) o := by
  unfold val_main_v101 val_main_v100 val_main_v99 val_main_v98 val_main_v97 val_main_v96 val_main_v95 val_main_v94 val_main_v93 val_main_v92
    val_main_v91 Graph.readout
  generalize val_main_v90 (F := Ideal) x0 x1 x2 x3 x4 x5 x6 x7 x8 = y
  pointwise [val_main_call6_v0, val_main_call6_cst]

/-- The bound a row's entries are compared to. -/
theorem v3_at (x0 : FVec Ideal S2x8x1024x128 .f32) (s : Fin 16) (i j : Fin 1024) :
    val_main_v3 (F := Ideal) x0 (ix3 s i j) = val_main_values (F := Ideal) x0 (ix3 s i 4) := by
  unfold val_main_v3 val_main_v2
  generalize val_main_values (F := Ideal) x0 = y
  pointwise []

/-- The second graph's matrix. -/
theorem v6_at (x0 : FVec Ideal S2x8x1024x128 .f32) (s : Fin 16) (i j : Fin 1024) :
    val_main_v6 (F := Ideal) x0 (ix3 s i j)
      = Graph.keep (Graph.sims (snapshot x0 s)) (fun i => val_main_values (F := Ideal) x0 (ix3 s i 4)) i j := by
  unfold Graph.keep
  show _ = if val_main_values (F := Ideal) x0 (ix3 s i 4) ≤ Graph.sims (snapshot x0 s) i j then Graph.sims (snapshot x0 s) i j else 0
  rw [← v1_at]
  have h3 := v3_at x0 s i j
  generalize val_main_values (F := Ideal) x0 (ix3 s i 4) = t at h3 ⊢
  subst h3
  unfold val_main_v6 val_main_v4
  generalize val_main_v1 (F := Ideal) x0 = y
  generalize val_main_v3 (F := Ideal) x0 = z
  pointwise [val_main_v5, val_main_cst]

/-- The order a row is sorted in: greater entries first. -/
def order (r : Fin 1024 → EReal) : Fin 1024 → Fin 1024 :=
  sortedFrom (fun k k' => FloatOps.cmpfTotal (F := Ideal) (φ := .f32) .gt (r k) (r k') == 1#1)

/-- The comparison of the order, as the order of the extended reals. -/
theorem before_iff (a b : EReal) : (FloatOps.cmpfTotal (F := Ideal) (φ := .f32) .gt a b == 1#1) = decide (b < a) := by
  have e : FloatOps.cmpfTotal (F := Ideal) (φ := .f32) .gt a b = BitVec.ofBool (decide (b < a)) := rfl
  rw [e]
  by_cases h : b < a
  · rw [decide_eq_true h]; rfl
  · rw [decide_eq_false h]; rfl

/-- A sorted array at an index, along its last axis. -/
theorem sort2_at (y : S16x1024x1024.Idx → EReal) (z : S16x1024x1024.Idx → BitVec 32) (s : Fin 16) (i k : Fin 1024) :
    (Host.sort2 S16x1024x1024 2 (fun l r => FloatOps.cmpfTotal (F := Ideal) (φ := .f32) .gt l.1 r.1) y z).1 (ix3 s i k)
      = y (ix3 s i (order (fun j => y (ix3 s i j)) k)) := by
  have h2 : 2 < S16x1024x1024.rank := by decide
  have hal : ∀ j : Fin 1024, Shape.Idx.along (s := S16x1024x1024) (ix3 s i k) ⟨2, h2⟩ j = ix3 s i j := by
    intro j; funext a
    match a with
    | ⟨0, _⟩ => rfl
    | ⟨1, _⟩ => rfl
    | ⟨2, _⟩ => rfl
  unfold Host.sort2
  rw [dif_pos h2]
  dsimp only
  unfold order
  refine (congrArg y (hal _)).trans ?_
  have hf : (fun a b : Fin 1024 => FloatOps.cmpfTotal (F := Ideal) (φ := .f32) .gt
        (y (Shape.Idx.along (s := S16x1024x1024) (ix3 s i k) ⟨2, h2⟩ a)) (y (Shape.Idx.along (s := S16x1024x1024) (ix3 s i k) ⟨2, h2⟩ b)) == 1#1)
      = fun a b => FloatOps.cmpfTotal (F := Ideal) (φ := .f32) .gt (y (ix3 s i a)) (y (ix3 s i b)) == 1#1 :=
    funext fun a => funext fun b => by rw [hal, hal]
  exact congrArg (fun r => y (ix3 s i (sortedFrom r k))) hf

/-- The fifth of a row's greatest entries. -/
theorem values_at (x0 : FVec Ideal S2x8x1024x128 .f32) (s : Fin 16) (i : Fin 1024) :
    val_main_values (F := Ideal) x0 (ix3 s i 4)
      = val_main_v1 (F := Ideal) x0 (ix3 s i (order (fun j => val_main_v1 (F := Ideal) x0 (ix3 s i j)) 4)) := by
  unfold val_main_values
  generalize val_main_v1 (F := Ideal) x0 = y
  refine Eq.trans ?_ (sort2_at y (fun j => if hd : 2 < S16x1024x1024.rank then iotaInDim S16x1024x1024 32 ⟨2, hd⟩ j else 0#32) s i 4)
  unfold Host.topK
  dsimp only
  exact extractStridedSlice_apply (s := S16x1024x1024) (t := S16x1024x5) (fun _ => 0) _ sliceFits_S16x1024x1024_S16x1024x5
    (ix3 s i 4) (ix3 s i 4) (fun a => match a with
    | ⟨0, _⟩ => (Nat.zero_add _).symm
    | ⟨1, _⟩ => (Nat.zero_add _).symm
    | ⟨2, _⟩ => rfl)

/-- The bound is the row's fifth largest entry. -/
theorem values_isKth (x0 : FVec Ideal S2x8x1024x128 .f32) (s : Fin 16) (i : Fin 1024) :
    Kth.IsKth (Graph.sims (snapshot x0 s) i) 5 (val_main_values (F := Ideal) x0 (ix3 s i 4)) := by
  rw [values_at]
  simp only [v1_at]
  generalize Graph.sims (snapshot x0 s) i = r
  refine Kth.isKth_of_sorted (order r) (sortedFrom_injective _) (fun a b hab => ?_) 4
  have := sortedFrom_noInversion (fun k k' => decide (r k' < r k))
    (fun k k' => FloatOps.cmpfTotal (F := Ideal) (φ := .f32) .gt (r k) (r k') == 1#1)
    (fun a b h => by rw [before_iff, decide_eq_true_iff] at h; exact decide_eq_false (not_lt.mpr h.le))
    (fun a b h => by rw [before_iff]; exact h)
    (fun a b c h h' => by
      rw [decide_eq_false_iff_not, not_lt] at h h' ⊢
      exact h.trans h') a b hab
  rw [decide_eq_false_iff_not] at this
  exact this

/-- The reference's result: the formula over the second kind of layers, with the fifth largest entries as thresholds. -/
theorem result_at (x0 : FVec Ideal S2x8x1024x128 .f32) (x1 : FVec Ideal S128x128 .f32) (x2 : FVec Ideal S128 .f32)
    (x3 : FVec Ideal S128x128 .f32) (x4 : FVec Ideal S128 .f32) (x5 : FVec Ideal S256x128 .f32) (x6 : FVec Ideal S128 .f32)
    (x7 : FVec Ideal S128x128 .f32) (x8 : FVec Ideal S128 .f32) (x9 : FVec Ideal S1024x128 .f32) (x10 : FVec Ideal S128 .f32)
    (x11 : FVec Ideal S128x1 .f32) (x12 : FVec Ideal S1 .f32) (b : Fin 2) (l : Fin 8) (o : Fin 128) :
    val_main_v101 (F := Ideal) x0 x1 x2 x3 x4 x5 x6 x7 x8 x9 x10 x11 x12 (ix3 b l o)
      = Graph.result (fun S => Graph.gcn' (Ideal.ofBits .f32 0x358637BD#32) S (snapshot x0 (flat b l)) (sq x1) (sq x3) (vec x2) (vec x4))
        (snapshot x0 (flat b l)) (fun i => val_main_values (F := Ideal) x0 (ix3 (flat b l) i 4)) (sq x5) (vec x6) (sq x7) (vec x8)
        (sq x9) (vec x10) (fun k => x11 (ix2 k 0)) (x12 (ix1 0)) o := by
  rw [v101_at]
  unfold Graph.result
  congr 1
  funext i o
  rw [v90_at]
  congr 1
  · funext i f; exact v64_at x0 x1 x2 x3 x4 (flat b l) i f
  · funext i f; exact v79_at x0 x1 x2 x3 x4 (flat b l) _ (v6_at x0 (flat b l)) i f

end Cert.ReferenceIdeal.Read

end
-- ==== Proof.Answer.lean ====
/- The array the kernel returns and the array the reference returns, over arrays of extended reals: equal where the
   snapshots and the first layer's and second layer's weights the comparison needs are real numbers. -/
module

public import proofs.«01_k».proof.Proof.Value
public import proofs.«01_k».proof.Proof.Threshold
public import proofs.«01_k».proof.Proof.Reference
public import proofs.«01_k».proof.Proof.Gen.Pre_finite

@[expose] public section

set_option maxRecDepth 16384

noncomputable section

namespace Cert.KernelIdeal.Snap

open Idealize.ShloMosaic Cert.Proof
open Cert.KernelIdeal.Gen
open Cert.ReferenceIdeal.Read (snapshot sq vec flat)

/-- What the kernel's program returns of its arguments: the pipeline's array under the host's reshapes. -/
def answer (x0 : FVec Ideal S2x8x1024x128 .f32) (x1 : FVec Ideal S128x128 .f32) (x2 : FVec Ideal S128 .f32)
    (x3 : FVec Ideal S128x128 .f32) (x4 : FVec Ideal S128 .f32) (x5 : FVec Ideal S256x128 .f32) (x6 : FVec Ideal S128 .f32)
    (x7 : FVec Ideal S128x128 .f32) (x8 : FVec Ideal S128 .f32) (x9 : FVec Ideal S1024x128 .f32) (x10 : FVec Ideal S128 .f32)
    (x11 : FVec Ideal S128x1 .f32) (x12 : FVec Ideal S1 .f32) : FVec Ideal S2x8x128 .f32 :=
  shapeCast S2x8x128
    (outArr (shapeCast S16x1024x128 x0 shapeCasts_S2x8x1024x128_S16x1024x128) x1
      (shapeCast S1x128 x2 shapeCasts_S128_S1x128) x3 (shapeCast S1x128 x4 shapeCasts_S128_S1x128) x5
      (shapeCast S1x128 x6 shapeCasts_S128_S1x128) x7 (shapeCast S1x128 x8 shapeCasts_S128_S1x128) x9
      (shapeCast S1x128 x10 shapeCasts_S128_S1x128) (shapeCast S1x128 x11 shapeCasts_S128x1_S1x128)
      (shapeCast S1x1 x12 shapeCasts_S1_S1x1))
    shapeCasts_S16x1x128_S2x8x128

/-- The kernel's answer at sequence `b`, step `l`, output `o` is row `8 b + l` of the pipeline's array. -/
theorem flat_apply (Y : FVec Ideal S16x1x128 .f32) (b : Fin 2) (l : Fin 8) (o : Fin 128) :
    shapeCast S2x8x128 Y shapeCasts_S16x1x128_S2x8x128 (ix3 b l o) = Y (ix3 (flat b l) 0 o) := by
  pointwise
  done

/-- Snapshot `s` as the kernel reads it is snapshot `s` as the reference reads it. -/
theorem mat_rowOf (x0 : FVec Ideal S2x8x1024x128 .f32) (s : Fin 16) :
    mat (rowOf (shapeCast S16x1024x128 x0 shapeCasts_S2x8x1024x128_S16x1024x128) s) = snapshot x0 s := rfl

/-- A bias laid out as one row is the bias. -/
theorem mat_bias (b : FVec Ideal S128 .f32) : mat (shapeCast S1x128 b shapeCasts_S128_S1x128) 0 = vec b := by
  funext k
  show shapeCast S1x128 b shapeCasts_S128_S1x128 (ix2 0 k) = b (ix1 k)
  pointwise

/-- A column laid out as one row. -/
theorem mat_col (w : FVec Ideal S128x1 .f32) :
    mat (shapeCast S1x128 w shapeCasts_S128x1_S1x128) 0 = fun k => w (ix2 k 0) := by
  funext k
  show shapeCast S1x128 w shapeCasts_S128x1_S1x128 (ix2 0 k) = w (ix2 k 0)
  pointwise

/-- A single number laid out as a one by one array. -/
theorem one_apply (w : FVec Ideal S1 .f32) : shapeCast S1x1 w shapeCasts_S1_S1x1 (ix2 0 0) = w (ix1 0) := by
  pointwise

/-- The kernel's answer at one index, over the snapshots. -/
theorem answer_at (x0 : FVec Ideal S2x8x1024x128 .f32) (x1 : FVec Ideal S128x128 .f32) (x2 : FVec Ideal S128 .f32)
    (x3 : FVec Ideal S128x128 .f32) (x4 : FVec Ideal S128 .f32) (x5 : FVec Ideal S256x128 .f32) (x6 : FVec Ideal S128 .f32)
    (x7 : FVec Ideal S128x128 .f32) (x8 : FVec Ideal S128 .f32) (x9 : FVec Ideal S1024x128 .f32) (x10 : FVec Ideal S128 .f32)
    (x11 : FVec Ideal S128x1 .f32) (x12 : FVec Ideal S1 .f32) (b : Fin 2) (l : Fin 8) (o : Fin 128) :
    answer x0 x1 x2 x3 x4 x5 x6 x7 x8 x9 x10 x11 x12 (ix3 b l o) =
      Graph.result (fun S => Graph.gcn (Ideal.ofBits .f32 0x358637BD#32) S (snapshot x0 (flat b l)) (sq x1) (sq x3) (vec x2) (vec x4))
        (snapshot x0 (flat b l))
        (fun i => threshold (sims (rowOf (shapeCast S16x1024x128 x0 shapeCasts_S2x8x1024x128_S16x1024x128) (flat b l))) (ix2 i 0))
        (sq x5) (vec x6) (sq x7) (vec x8) (sq x9) (vec x10) (fun k => x11 (ix2 k 0)) (x12 (ix1 0)) o := by
  unfold answer
  rw [flat_apply]
  unfold outArr
  refine (snap_apply _ _ _ _ _ _ _ _ _ _ _ _ _ o).trans ?_
  rw [mat_bias, mat_bias, mat_bias, mat_bias, mat_bias, mat_col, one_apply]
  rfl

/-- A number whose absolute value is below infinity is real. -/
theorem real_of_abs_lt_top (a : EReal) (h : max a (-a) < ⊤) : ∃ r : ℝ, a = (r : EReal) := by
  induction a using EReal.rec with
  | bot => simp at h
  | coe r => exact ⟨r, rfl⟩
  | top => simp at h

/-- The kernel's threshold of a row is the fifth largest of the snapshot's similarities, where these are all below `⊤`. -/
theorem threshold_snapshot (x0 : FVec Ideal S2x8x1024x128 .f32) (s : Fin 16)
    (i : Fin 1024) (h : ∀ j, Graph.sims (snapshot x0 s) i j < ⊤) :
    Kth.IsKth (Graph.sims (snapshot x0 s) i) 5
      (threshold (sims (rowOf (shapeCast S16x1024x128 x0 shapeCasts_S2x8x1024x128_S16x1024x128) s)) (ix2 i 0)) := by
  have e := (sims_mat (rowOf (shapeCast S16x1024x128 x0 shapeCasts_S2x8x1024x128_S16x1024x128) s)).trans
    (congrArg Graph.sims (mat_rowOf x0 s))
  have k := threshold_isKth (sims (rowOf (shapeCast S16x1024x128 x0 shapeCasts_S2x8x1024x128_S16x1024x128) s)) i
    fun j => by
      have := h j
      rw [← e] at this
      exact this
  rw [e] at k
  exact k

/-- A table of numbers that are all real is a table of reals. -/
theorem table_real {α β : Type} {y : α → β → EReal} (h : ∀ i j, ∃ r : ℝ, y i j = (r : EReal)) :
    ∃ Y : α → β → ℝ, y = fun i j => (Y i j : EReal) := by
  choose Y hY using h
  exact ⟨Y, funext fun i => funext fun j => hY i j⟩

/-- The two orders of evaluation give one result where both weights and the first bias are real and each threshold is
    the fifth largest similarity of its row, which the first need be only at rows without `⊤`. -/
theorem result_eq_of_real (y : Fin 1024 → Fin 128 → EReal) (w0 w1 : Fin 128 → Fin 128 → EReal) (c0 c1 : Fin 128 → EReal)
    (h0 : ∀ f o, ∃ r : ℝ, w0 f o = (r : EReal))
    (h1 : ∀ f o, ∃ r : ℝ, w1 f o = (r : EReal)) (hc : ∀ o, ∃ r : ℝ, c0 o = (r : EReal)) (t t' : Fin 1024 → EReal)
    (ht : ∀ i, (∀ j, Graph.sims y i j < ⊤) → Kth.IsKth (Graph.sims y i) 5 (t i))
    (ht' : ∀ i, Kth.IsKth (Graph.sims y i) 5 (t' i))
    (Wg0 : Fin 256 → Fin 128 → EReal) (bg0 : Fin 128 → EReal)
    (Wg1 : Fin 128 → Fin 128 → EReal) (bg1 : Fin 128 → EReal) (Wn0 : Fin 1024 → Fin 128 → EReal) (bn0 : Fin 128 → EReal)
    (Wn1 : Fin 128 → EReal) (bn1 : EReal) :
    Graph.result (fun S => Graph.gcn (Ideal.ofBits .f32 0x358637BD#32) S y w0 w1 c0 c1) y t Wg0 bg0 Wg1 bg1 Wn0 bn0 Wn1 bn1
      = Graph.result (fun S => Graph.gcn' (Ideal.ofBits .f32 0x358637BD#32) S y w0 w1 c0 c1) y t' Wg0 bg0 Wg1 bg1 Wn0 bn0 Wn1 bn1 := by
  obtain ⟨U0, rfl⟩ := table_real h0
  obtain ⟨U1, rfl⟩ := table_real h1
  choose C0 hC using hc
  obtain rfl : c0 = fun o => (C0 o : EReal) := funext hC
  obtain ⟨e, he, hee⟩ := ofBits_eps
  rw [hee]
  exact Graph.result_eq e he y U0 U1 C0 c1 t t' ht ht' Wg0 bg0 Wg1 bg1 Wn0 bn0 Wn1 bn1

/-- The two programs' answers are one array where both weights of the graph layers and the first of their biases
    are real. -/
theorem answer_eq (x0 : FVec Ideal S2x8x1024x128 .f32) (x1 : FVec Ideal S128x128 .f32) (x2 : FVec Ideal S128 .f32)
    (x3 : FVec Ideal S128x128 .f32) (x4 : FVec Ideal S128 .f32) (x5 : FVec Ideal S256x128 .f32) (x6 : FVec Ideal S128 .f32)
    (x7 : FVec Ideal S128x128 .f32) (x8 : FVec Ideal S128 .f32) (x9 : FVec Ideal S1024x128 .f32) (x10 : FVec Ideal S128 .f32)
    (x11 : FVec Ideal S128x1 .f32) (x12 : FVec Ideal S1 .f32)
    (h1 : ∀ i, ∃ r : ℝ, x1 i = (r : EReal)) (h2 : ∀ i, ∃ r : ℝ, x2 i = (r : EReal))
    (h3 : ∀ i, ∃ r : ℝ, x3 i = (r : EReal)) :
    answer x0 x1 x2 x3 x4 x5 x6 x7 x8 x9 x10 x11 x12
      = Cert.ReferenceIdeal.Read.val_main_v101 (F := Ideal) x0 x1 x2 x3 x4 x5 x6 x7 x8 x9 x10 x11 x12 := by
  funext k
  obtain ⟨b, l, o, rfl⟩ : ∃ (b : Fin 2) (l : Fin 8) (o : Fin 128), k = ix3 b l o :=
    ⟨k 0, k 1, k 2, by funext d; fin_cases d <;> rfl⟩
  refine (answer_at x0 x1 x2 x3 x4 x5 x6 x7 x8 x9 x10 x11 x12 b l o).trans
    (Eq.trans ?_ (Cert.ReferenceIdeal.Read.result_at x0 x1 x2 x3 x4 x5 x6 x7 x8 x9 x10 x11 x12 b l o).symm)
  refine congrFun (result_eq_of_real _ _ _ _ _ (fun f o => h1 _) (fun f o => h3 _) (fun o => h2 _) _ _
    (threshold_snapshot x0 (flat b l)) (Cert.ReferenceIdeal.Read.values_isKth x0 (flat b l)) _ _ _ _ _ _ _ _) o

end Cert.KernelIdeal.Snap
-- ==== Proof.Algebraic.lean ====
/- The value claim: the kernel over the extended reals returns what the reference returns. -/
module

public import proofs.«01_k».proof.Defs
public import proofs.«01_k».proof.Proof.Answer

@[expose] public section

set_option maxRecDepth 16384

noncomputable section

namespace Cert.KernelIdeal.Snap

open Idealize.ShloMosaic Idealize.ShloMosaic.TcCoe
open Cert.KernelIdeal.Gen

variable {F : FTy → Type} [FloatOps F]

/-- The pipeline's operand `main_v0` is argument 0 laid out anew. -/
theorem V_main_v0 (m : (ℓ : Loc nD τ sig) → Buf (Elt F) ℓ) (c : Dev nD) :
    V m c main_v0 = shapeCast S16x1024x128 (m ((c.tc : Thread nD τ).loc main_arg0)) shapeCasts_S2x8x1024x128_S16x1024x128 := by
  show StableHlo.after (List.flatten [hostOps0]) (fun b => m (c, b)) (Proc.devRef .tc main_v0) = _
  simp only [hostOps0, List.flatten_cons, List.flatten_nil, List.append_nil]
  after_results
  rfl

/-- The pipeline's operand `main_v1` is argument 2 laid out anew. -/
theorem V_main_v1 (m : (ℓ : Loc nD τ sig) → Buf (Elt F) ℓ) (c : Dev nD) :
    V m c main_v1 = shapeCast S1x128 (m ((c.tc : Thread nD τ).loc main_arg2)) shapeCasts_S128_S1x128 := by
  show StableHlo.after (List.flatten [hostOps0]) (fun b => m (c, b)) (Proc.devRef .tc main_v1) = _
  simp only [hostOps0, List.flatten_cons, List.flatten_nil, List.append_nil]
  after_results
  rfl

/-- The pipeline's operand `main_v2` is argument 4 laid out anew. -/
theorem V_main_v2 (m : (ℓ : Loc nD τ sig) → Buf (Elt F) ℓ) (c : Dev nD) :
    V m c main_v2 = shapeCast S1x128 (m ((c.tc : Thread nD τ).loc main_arg4)) shapeCasts_S128_S1x128 := by
  show StableHlo.after (List.flatten [hostOps0]) (fun b => m (c, b)) (Proc.devRef .tc main_v2) = _
  simp only [hostOps0, List.flatten_cons, List.flatten_nil, List.append_nil]
  after_results
  rfl

/-- The pipeline's operand `main_v3` is argument 6 laid out anew. -/
theorem V_main_v3 (m : (ℓ : Loc nD τ sig) → Buf (Elt F) ℓ) (c : Dev nD) :
    V m c main_v3 = shapeCast S1x128 (m ((c.tc : Thread nD τ).loc main_arg6)) shapeCasts_S128_S1x128 := by
  show StableHlo.after (List.flatten [hostOps0]) (fun b => m (c, b)) (Proc.devRef .tc main_v3) = _
  simp only [hostOps0, List.flatten_cons, List.flatten_nil, List.append_nil]
  after_results
  rfl

/-- The pipeline's operand `main_v4` is argument 8 laid out anew. -/
theorem V_main_v4 (m : (ℓ : Loc nD τ sig) → Buf (Elt F) ℓ) (c : Dev nD) :
    V m c main_v4 = shapeCast S1x128 (m ((c.tc : Thread nD τ).loc main_arg8)) shapeCasts_S128_S1x128 := by
  show StableHlo.after (List.flatten [hostOps0]) (fun b => m (c, b)) (Proc.devRef .tc main_v4) = _
  simp only [hostOps0, List.flatten_cons, List.flatten_nil, List.append_nil]
  after_results
  rfl

/-- The pipeline's operand `main_v5` is argument 10 laid out anew. -/
theorem V_main_v5 (m : (ℓ : Loc nD τ sig) → Buf (Elt F) ℓ) (c : Dev nD) :
    V m c main_v5 = shapeCast S1x128 (m ((c.tc : Thread nD τ).loc main_arg10)) shapeCasts_S128_S1x128 := by
  show StableHlo.after (List.flatten [hostOps0]) (fun b => m (c, b)) (Proc.devRef .tc main_v5) = _
  simp only [hostOps0, List.flatten_cons, List.flatten_nil, List.append_nil]
  after_results
  rfl

/-- The pipeline's operand `main_v6` is argument 11 laid out anew. -/
theorem V_main_v6 (m : (ℓ : Loc nD τ sig) → Buf (Elt F) ℓ) (c : Dev nD) :
    V m c main_v6 = shapeCast S1x128 (m ((c.tc : Thread nD τ).loc main_arg11)) shapeCasts_S128x1_S1x128 := by
  show StableHlo.after (List.flatten [hostOps0]) (fun b => m (c, b)) (Proc.devRef .tc main_v6) = _
  simp only [hostOps0, List.flatten_cons, List.flatten_nil, List.append_nil]
  after_results
  rfl

/-- The pipeline's operand `main_v7` is argument 12 laid out anew. -/
theorem V_main_v7 (m : (ℓ : Loc nD τ sig) → Buf (Elt F) ℓ) (c : Dev nD) :
    V m c main_v7 = shapeCast S1x1 (m ((c.tc : Thread nD τ).loc main_arg12)) shapeCasts_S1_S1x1 := by
  show StableHlo.after (List.flatten [hostOps0]) (fun b => m (c, b)) (Proc.devRef .tc main_v7) = _
  simp only [hostOps0, List.flatten_cons, List.flatten_nil, List.append_nil]
  after_results
  rfl

/-- The kernel's result is the pipeline's array laid out anew. -/
theorem W_main_v9 (m : (ℓ : Loc nD τ sig) → Buf (Elt F) ℓ) (c : Dev nD) :
    Pipeline.afterTail₀ cfgs (dats m) 0 (V0 m) [hostOps1] c main_v9
      = shapeCast S2x8x128 ((dats m 0 c).arrAt 13 cfg0.N) shapeCasts_S16x1x128_S2x8x128 := by
  unfold Pipeline.afterTail₀
  have h : Pipeline.withArrays (cfgs 0).spec c (V0 m c) (fun w => (dats m 0 c).arrAt w (cfgs 0).N) (Proc.devRef .tc main_v8)
      = (dats m 0 c).arrAt 13 cfg0.N :=
    Pipeline.withArrays_arr (cfgs 0).spec (by decide) c (V0 m c) (fun w => (dats m 0 c).arrAt w (cfgs 0).N) 13
  rw [← h]
  generalize Pipeline.withArrays (cfgs 0).spec c (V0 m c) (fun w => (dats m 0 c).arrAt w (cfgs 0).N) = X
  simp only [hostOps1, List.flatten_cons, List.flatten_nil, List.append_nil]
  after_results
  rfl

/-- The kernel's result of its arguments. -/
theorem result_main_v9 (m : (ℓ : Loc nD τ sig) → Buf (Elt Ideal) ℓ) (c : Dev nD) :
    Pipeline.afterTail₀ cfgs (dats m) 0 (V0 m) [hostOps1] c main_v9
      = answer (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12)) := by
  rw [W_main_v9, final, V_main_v0, V_main_v1, V_main_v2, V_main_v3, V_main_v4, V_main_v5, V_main_v6, V_main_v7,
    V_main_arg1, V_main_arg3, V_main_arg5, V_main_arg7, V_main_arg9]
  rfl

end Cert.KernelIdeal.Snap

namespace Cert.Proof

open Idealize.ShloMosaic Idealize.SL.Sem
open Cert.KernelIdeal Cert.KernelIdeal.Gen Cert.KernelIdeal.Snap

/-- An array whose entries all compare below infinity in absolute value holds real numbers. -/
theorem real_of_flags {S : Shape} (x : FVec Ideal S .f32) (z : FVec Ideal S .f32)
    (hz : ∀ i, z i = Ideal.ofBits .f32 0x7F800000#32) (h : cmpf .olt (Host.absf x) z = fun _ => 1#1) :
    ∀ i, ∃ r : ℝ, x i = (r : EReal) := by
  intro i
  have hi : BitVec.ofBool (decide (max (x i) (-(x i)) < z i)) = 1#1 := congrFun h i
  rw [hz, ofBits_pos_inf, ofBool_iff] at hi
  exact real_of_abs_lt_top (x i) hi

/-- The reference's answer of equal arguments, those the comparison needs finite, is the kernel's. -/
theorem answer_pair
    (x0 y0 : FVec Ideal S2x8x1024x128 .f32)
    (x1 y1 : FVec Ideal S128x128 .f32)
    (x2 y2 : FVec Ideal S128 .f32)
    (x3 y3 : FVec Ideal S128x128 .f32)
    (x4 y4 : FVec Ideal S128 .f32)
    (x5 y5 : FVec Ideal S256x128 .f32)
    (x6 y6 : FVec Ideal S128 .f32)
    (x7 y7 : FVec Ideal S128x128 .f32)
    (x8 y8 : FVec Ideal S128 .f32)
    (x9 y9 : FVec Ideal S1024x128 .f32)
    (x10 y10 : FVec Ideal S128 .f32)
    (x11 y11 : FVec Ideal S128x1 .f32)
    (x12 y12 : FVec Ideal S1 .f32)
    (e0 : y0 = x0) (e1 : y1 = x1) (e2 : y2 = x2) (e3 : y3 = x3) (e4 : y4 = x4) (e5 : y5 = x5)
    (e6 : y6 = x6) (e7 : y7 = x7) (e8 : y8 = x8) (e9 : y9 = x9) (e10 : y10 = x10) (e11 : y11 = x11)
    (e12 : y12 = x12)
    (p1 : cmpf .olt (Host.absf x1) (broadcastInDim S128x128 ![] Cert.Pre_finite.Gen.facts.bcast_S_S128x128 (constant ⟨0, ![]⟩ .f32 0x7F800000#32)) = fun _ => 1#1)
    (p2 : cmpf .olt (Host.absf x2) (broadcastInDim S128 ![] Cert.Pre_finite.Gen.facts.bcast_S_S128 (constant ⟨0, ![]⟩ .f32 0x7F800000#32)) = fun _ => 1#1)
    (p3 : cmpf .olt (Host.absf x3) (broadcastInDim S128x128 ![] Cert.Pre_finite.Gen.facts.bcast_S_S128x128 (constant ⟨0, ![]⟩ .f32 0x7F800000#32)) = fun _ => 1#1) :
    Cert.ReferenceIdeal.Read.val_main_v101 (F := Ideal) y0 y1 y2 y3 y4 y5 y6 y7 y8 y9 y10 y11 y12
      = answer x0 x1 x2 x3 x4 x5 x6 x7 x8 x9 x10 x11 x12 := by
  subst e0 e1 e2 e3 e4 e5 e6 e7 e8 e9 e10 e11 e12
  exact (answer_eq _ _ _ _ _ _ _ _ _ _ _ _ _ (real_of_flags _ _ (fun _ => rfl) p1)
    (real_of_flags _ _ (fun _ => rfl) p2) (real_of_flags _ _ (fun _ => rfl) p3)).symm

/-- The kernel over the extended reals and the reference, of equal arguments, return one array, where both weights of
    the graph layers and the first of their biases are finite. -/
theorem algebraic : Cert.algebraic_KernelIdeal_ReferenceIdeal_pre_finite := by
  pair_intro
  · have h := (θ_run Cert.KernelIdeal.defs _ _).mono (fun _ h => h.1) (Cert.KernelIdeal.Snap.run_main (F := Ideal) m g)
    run_from h
    · exact W_main_arg0 m (dats m) c
    · exact W_main_arg2 m (dats m) c
    · exact W_main_arg4 m (dats m) c
    · exact W_main_arg6 m (dats m) c
    · exact W_main_arg8 m (dats m) c
    · exact W_main_arg10 m (dats m) c
    · exact W_main_arg11 m (dats m) c
    · exact W_main_arg12 m (dats m) c
  · run_from (Cert.ReferenceIdeal.Value.run (F := Ideal) m' g')
    obtain ⟨a0, a1, a2, a3, a4, a5, a6, a7, a8, a9, a10, a11, a12⟩ := hagree c
    obtain ⟨p1, p2, p3⟩ := hpre c
    refine (Cert.ReferenceIdeal.Read.val_main_v101_eq m' c).trans (Eq.trans ?_ (result_main_v9 m c).symm)
    exact answer_pair _ _ _ _ _ _ _ _ _ _ _ _ _ _ _ _ _ _ _ _ _ _ _ _ _ _
      a0 a1 a2 a3 a4 a5 a6 a7 a8 a9 a10 a11 a12 p1 p2 p3

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_finite.Gen.facts,
    frame_kernel, frame_kernelIdeal, frame_kernelIdeal_finite, frame_reference, frame_reference_finite, trivial, algebraic⟩

end Cert.Proof

end
